-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v817) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S1024x1 : Shape := ⟨2, ![1024, 1]⟩
abbrev S1 : Shape := ⟨1, ![1]⟩
abbrev S4096x1024 : Shape := ⟨2, ![4096, 1024]⟩
abbrev S1x1 : Shape := ⟨2, ![1, 1]⟩
abbrev S8x1x4096 : Shape := ⟨3, ![8, 1, 4096]⟩
abbrev S8x1x1024 : Shape := ⟨3, ![8, 1, 1024]⟩
abbrev S512x1024 : Shape := ⟨2, ![512, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S512x8 : Shape := ⟨2, ![512, 8]⟩
abbrev S512x1 : Shape := ⟨2, ![512, 1]⟩
abbrev S1x8 : Shape := ⟨2, ![1, 8]⟩
abbrev S512 : Shape := ⟨1, ![512]⟩
abbrev S1024x4096 : Shape := ⟨2, ![1024, 4096]⟩
abbrev S512x4096 : Shape := ⟨2, ![512, 4096]⟩
abbrev S1x4096 : Shape := ⟨2, ![1, 4096]⟩
abbrev S1x1024 : Shape := ⟨2, ![1, 1024]⟩

abbrev nBuf : Space → Nat
  | .hbm => 17
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S8x1024x4096, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S1024x1, .f32⟩
  | .hbm, ⟨6, _⟩ => ⟨S1, .f32⟩
  | .hbm, ⟨7, _⟩ => ⟨S4096x1024, .f32⟩
  | .hbm, ⟨8, _⟩ => ⟨S4096x1024, .bf16⟩
  | .hbm, ⟨9, _⟩ => ⟨S8x1024x4096, .bf16⟩
  | .hbm, ⟨10, _⟩ => ⟨S8x4096x1024, .bf16⟩
  | .hbm, ⟨11, _⟩ => ⟨S1024x1, .bf16⟩
  | .hbm, ⟨12, _⟩ => ⟨S1x1, .f32⟩
  | .hbm, ⟨13, _⟩ => ⟨S8x1x4096, .f32⟩
  | .hbm, ⟨14, _⟩ => ⟨S8x1x1024, .f32⟩
  | .hbm, ⟨15, _⟩ => ⟨S4096x1024, .f32⟩
  | .hbm, ⟨16, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1, .bf16⟩
  | .local _ .vmem, ⟨3, _⟩ => ⟨S1x1, .f32⟩
  | .local _ .vmem, ⟨4, _⟩ => ⟨S1x1024x4096, .bf16⟩
  | .local _ .vmem, ⟨5, _⟩ => ⟨S1x1024x4096, .bf16⟩
  | .local _ .vmem, ⟨6, _⟩ => ⟨S1x1x4096, .f32⟩
  | .local _ .vmem, ⟨7, _⟩ => ⟨S1x1x4096, .f32⟩
  | .local _ .vmem, ⟨8, _⟩ => ⟨S1x4096x1024, .bf16⟩
  | .local _ .vmem, ⟨9, _⟩ => ⟨S1x4096x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_19 : BitVec 32 := 0#32
  let v36 : BitVec 1 := Scalar.cmpi .eq arg1 c0_i32_19
  let v37 : BitVec 32 := Scalar.extui v36
  let c0_i32_20 : BitVec 32 := 0#32
  let v38 : BitVec 1 := Scalar.cmpi .ne v37 c0_i32_20
  v38

def k0_cond3 (i : grid0.Coords) : BitVec 1 :=
  let arg1 : BitVec 32 := BitVec.ofNat 32 (i 1).val
  let c0_i32_21 : BitVec 32 := 0#32
  let v39 : BitVec 1 := Scalar.cmpi .ne arg1 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x2048x1024 : Shape := ⟨3, ![2, 2048, 1024]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S1024x1 : Shape := ⟨2, ![1024, 1]⟩
abbrev S1 : Shape := ⟨1, ![1]⟩
abbrev S2x2048x1 : Shape := ⟨3, ![2, 2048, 1]⟩
abbrev S1x1x1 : Shape := ⟨3, ![1, 1, 1]⟩
abbrev S2x2048 : Shape := ⟨2, ![2, 2048]⟩
abbrev S_ : Shape := ⟨0, ![]⟩
abbrev S2048 : Shape := ⟨1, ![2048]⟩
abbrev S1x1024x4096 : Shape := ⟨3, ![1, 1024, 4096]⟩
abbrev S1024x4096 : Shape := ⟨2, ![1024, 4096]⟩
abbrev S2x2048x4096 : Shape := ⟨3, ![2, 2048, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S1x1x1024 : Shape := ⟨3, ![1, 1, 1024]⟩
abbrev S1x2048 : Shape := ⟨2, ![1, 2048]⟩

abbrev nBuf : Space → Nat
  | .hbm => 1372
  | .vmem => 0
  | .smem => 0
  | _ => 0

abbrev hbmTy0_0 (i : Nat) : BufTy := match i % 128 with
  | 0 => ⟨S2x2048x1024, .f32⟩
  | 1 => ⟨S8x1024x4096, .f32⟩
  | 2 => ⟨S8x4096, .f32⟩
  | 3 => ⟨S8x4096x1024, .f32⟩
  | 4 => ⟨S8x1024, .f32⟩
  | 5 => ⟨S1024x1, .f32⟩
  | 6 => ⟨S1, .f32⟩
  | 7 => ⟨S2x2048x1, .f32⟩
  | 8 => ⟨S1x1x1, .f32⟩
  | 9 => ⟨S2x2048x1, .f32⟩
  | 10 => ⟨S2x2048x1, .f32⟩
  | 11 => ⟨S2x2048, .f32⟩
  | 12 => ⟨S2x2048, .f32⟩
  | 13 => ⟨S2x2048, .f32⟩
  | 14 => ⟨S_, .f32⟩
  | 15 => ⟨S2x2048, .f32⟩
  | 16 => ⟨S2x2048, .f32⟩
  | 17 => ⟨S_, .f32⟩
  | 18 => ⟨S2x2048, .f32⟩
  | 19 => ⟨S2x2048, .f32⟩
  | 20 => ⟨S_, .f32⟩
  | 21 => ⟨S2x2048, .f32⟩
  | 22 => ⟨S2x2048, .f32⟩
  | 23 => ⟨S2x2048, .f32⟩
  | 24 => ⟨S_, .i32⟩
  | 25 => ⟨S_, .i32⟩
  | 26 => ⟨S_, .f32⟩
  | 27 => ⟨S2x2048, .f32⟩
  | 28 => ⟨S2x2048, .f32⟩
  | 29 => ⟨S_, .f32⟩
  | 30 => ⟨S2x2048, .f32⟩
  | 31 => ⟨S2x2048, .f32⟩
  | 32 => ⟨S2x2048, .i32⟩
  | 33 => ⟨S2048, .i32⟩
  | 34 => ⟨S1x1024x4096, .f32⟩
  | 35 => ⟨S1024x4096, .f32⟩
  | 36 => ⟨S2x2048x4096, .f32⟩
  | 37 => ⟨S1x4096, .f32⟩
  | 38 => ⟨S4096, .f32⟩
  | 39 => ⟨S1x1x4096, .f32⟩
  | 40 => ⟨S2x2048x4096, .f32⟩
  | 41 => ⟨S2x2048x4096, .f32⟩
  | 42 => ⟨S_, .f32⟩
  | 43 => ⟨S2x2048x4096, .f32⟩
  | 44 => ⟨S2x2048x4096, .f32⟩
  | 45 => ⟨S1x4096x1024, .f32⟩
  | 46 => ⟨S4096x1024, .f32⟩
  | 47 => ⟨S2x2048x1024, .f32⟩
  | 48 => ⟨S1x1024, .f32⟩
  | 49 => ⟨S1024, .f32⟩
  | 50 => ⟨S1x1x1024, .f32⟩
  | 51 => ⟨S2x2048x1024, .f32⟩
  | 52 => ⟨S2x2048x1024, .f32⟩
  | 53 => ⟨S1x1024x4096, .f32⟩
  | 54 => ⟨S1024x4096, .f32⟩
  | 55 => ⟨S2x2048x4096, .f32⟩
  | 56 => ⟨S1x4096, .f32⟩
  | 57 => ⟨S4096, .f32⟩
  | 58 => ⟨S1x1x4096, .f32⟩
  | 59 => ⟨S2x2048x4096, .f32⟩
  | 60 => ⟨S2x2048x4096, .f32⟩
  | 61 => ⟨S_, .f32⟩
  | 62 => ⟨S2x2048x4096, .f32⟩
  | 63 => ⟨S2x2048x4096, .f32⟩
  | 64 => ⟨S1x4096x1024, .f32⟩
  | 65 => ⟨S4096x1024, .f32⟩
  | 66 => ⟨S2x2048x1024, .f32⟩
  | 67 => ⟨S1x1024, .f32⟩
  | 68 => ⟨S1024, .f32⟩
  | 69 => ⟨S1x1x1024, .f32⟩
  | 70 => ⟨S2x2048x1024, .f32⟩
  | 71 => ⟨S2x2048x1024, .f32⟩
  | 72 => ⟨S1x1024x4096, .f32⟩
  | 73 => ⟨S1024x4096, .f32⟩
  | 74 => ⟨S2x2048x4096, .f32⟩
  | 75 => ⟨S1x4096, .f32⟩
  | 76 => ⟨S4096, .f32⟩
  | 77 => ⟨S1x1x4096, .f32⟩
  | 78 => ⟨S2x2048x4096, .f32⟩
  | 79 => ⟨S2x2048x4096, .f32⟩
  | 80 => ⟨S_, .f32⟩
  | 81 => ⟨S2x2048x4096, .f32⟩
  | 82 => ⟨S2x2048x4096, .f32⟩
  | 83 => ⟨S1x4096x1024, .f32⟩
  | 84 => ⟨S4096x1024, .f32⟩
  | 85 => ⟨S2x2048x1024, .f32⟩
  | 86 => ⟨S1x1024, .f32⟩
  | 87 => ⟨S1024, .f32⟩
  | 88 => ⟨S1x1x1024, .f32⟩
  | 89 => ⟨S2x2048x1024, .f32⟩
  | 90 => ⟨S2x2048x1024, .f32⟩
  | 91 => ⟨S1x1024x4096, .f32⟩
  | 92 => ⟨S1024x4096, .f32⟩
  | 93 => ⟨S2x2048x4096, .f32⟩
  | 94 => ⟨S1x4096, .f32⟩
  | 95 => ⟨S4096, .f32⟩
  | 96 => ⟨S1x1x4096, .f32⟩
  | 97 => ⟨S2x2048x4096, .f32⟩
  | 98 => ⟨S2x2048x4096, .f32⟩
  | 99 => ⟨S_, .f32⟩
  | 100 => ⟨S2x2048x4096, .f32⟩
  | 101 => ⟨S2x2048x4096, .f32⟩
  | 102 => ⟨S1x4096x1024, .f32⟩
  | 103 => ⟨S4096x1024, .f32⟩
  | 104 => ⟨S2x2048x1024, .f32⟩
  | 105 => ⟨S1x1024, .f32⟩
  | 106 => ⟨S1024, .f32⟩
  | 107 => ⟨S1x1x1024, .f32⟩
  | 108 => ⟨S2x2048x1024, .f32⟩
  | 109 => ⟨S2x2048x1024, .f32⟩
  | 110 => ⟨S1x1024x4096, .f32⟩
  | 111 => ⟨S1024x4096, .f32⟩
  | 112 => ⟨S2x2048x4096, .f32⟩
  | 113 => ⟨S1x4096, .f32⟩
  | 114 => ⟨S4096, .f32⟩
  | 115 => ⟨S1x1x4096, .f32⟩
  | 116 => ⟨S2x2048x4096, .f32⟩
  | 117 => ⟨S2x2048x4096, .f32⟩
  | 118 => ⟨S_, .f32⟩
  | 119 => ⟨S2x2048x4096, .f32⟩
  | 120 => ⟨S2x2048x4096, .f32⟩
  | 121 => ⟨S1x4096x1024, .f32⟩
  | 122 => ⟨S4096x1024, .f32⟩
  | 123 => ⟨S2x2048x1024, .f32⟩
  | 124 => ⟨S1x1024, .f32⟩
  | 125 => ⟨S1024, .f32⟩
  | 126 => ⟨S1x1x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S1x1024x4096, .f32⟩
  | 2 => ⟨S1024x4096, .f32⟩
  | 3 => ⟨S2x2048x4096, .f32⟩
  | 4 => ⟨S1x4096, .f32⟩
  | 5 => ⟨S4096, .f32⟩
  | 6 => ⟨S1x1x4096, .f32⟩
  | 7 => ⟨S2x2048x4096, .f32⟩
  | 8 => ⟨S2x2048x4096, .f32⟩
  | 9 => ⟨S_, .f32⟩
  | 10 => ⟨S2x2048x4096, .f32⟩
  | 11 => ⟨S2x2048x4096, .f32⟩
  | 12 => ⟨S1x4096x1024, .f32⟩
  | 13 => ⟨S4096x1024, .f32⟩
  | 14 => ⟨S2x2048x1024, .f32⟩
  | 15 => ⟨S1x1024, .f32⟩
  | 16 => ⟨S1024, .f32⟩
  | 17 => ⟨S1x1x1024, .f32⟩
  | 18 => ⟨S2x2048x1024, .f32⟩
  | 19 => ⟨S2x2048x1024, .f32⟩
  | 20 => ⟨S1x1024x4096, .f32⟩
  | 21 => ⟨S1024x4096, .f32⟩
  | 22 => ⟨S2x2048x4096, .f32⟩
  | 23 => ⟨S1x4096, .f32⟩
  | 24 => ⟨S4096, .f32⟩
  | 25 => ⟨S1x1x4096, .f32⟩
  | 26 => ⟨S2x2048x4096, .f32⟩
  | 27 => ⟨S2x2048x4096, .f32⟩
  | 28 => ⟨S_, .f32⟩
  | 29 => ⟨S2x2048x4096, .f32⟩
  | 30 => ⟨S2x2048x4096, .f32⟩
  | 31 => ⟨S1x4096x1024, .f32⟩
  | 32 => ⟨S4096x1024, .f32⟩
  | 33 => ⟨S2x2048x1024, .f32⟩
  | 34 => ⟨S1x1024, .f32⟩
  | 35 => ⟨S1024, .f32⟩
  | 36 => ⟨S1x1x1024, .f32⟩
  | 37 => ⟨S2x2048x1024, .f32⟩
  | 38 => ⟨S2x2048x1024, .f32⟩
  | 39 => ⟨S1x1024x4096, .f32⟩
  | 40 => ⟨S1024x4096, .f32⟩
  | 41 => ⟨S2x2048x4096, .f32⟩
  | 42 => ⟨S1x4096, .f32⟩
  | 43 => ⟨S4096, .f32⟩
  | 44 => ⟨S1x1x4096, .f32⟩
  | 45 => ⟨S2x2048x4096, .f32⟩
  | 46 => ⟨S2x2048x4096, .f32⟩
  | 47 => ⟨S_, .f32⟩
  | 48 => ⟨S2x2048x4096, .f32⟩
  | 49 => ⟨S2x2048x4096, .f32⟩
  | 50 => ⟨S1x4096x1024, .f32⟩
  | 51 => ⟨S4096x1024, .f32⟩
  | 52 => ⟨S2x2048x1024, .f32⟩
  | 53 => ⟨S1x1024, .f32⟩
  | 54 => ⟨S1024, .f32⟩
  | 55 => ⟨S1x1x1024, .f32⟩
  | 56 => ⟨S2x2048x1024, .f32⟩
  | 57 => ⟨S2x2048x1024, .f32⟩
  | 58 => ⟨S_, .f32⟩
  | 59 => ⟨S2x2048x1024, .f32⟩
  | 60 => ⟨S_, .i32⟩
  | 61 => ⟨S2x2048, .i32⟩
  | 62 => ⟨S2x2048, .i1⟩
  | 63 => ⟨S1x2048, .i32⟩
  | 64 => ⟨S_, .i32⟩
  | 65 => ⟨S1x2048, .i32⟩
  | 66 => ⟨S1x2048, .i32⟩
  | 67 => ⟨S_, .i32⟩
  | 68 => ⟨S1x2048, .i32⟩
  | 69 => ⟨S1x2048, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S1x2048, .i32⟩
  | 77 => ⟨S1x2048, .i32⟩
  | 78 => ⟨S_, .i32⟩
  | 79 => ⟨S1x2048, .i32⟩
  | 80 => ⟨S1x2048, .i1⟩
  | 81 => ⟨S_, .i32⟩
  | 82 => ⟨S1x2048, .i32⟩
  | 83 => ⟨S1x2048, .i1⟩
  | 84 => ⟨S_, .i32⟩
  | 85 => ⟨S_, .i1⟩
  | 86 => ⟨S1x2048, .i1⟩
  | 87 => ⟨S1x2048, .i1⟩
  | 88 => ⟨S1x2048, .i1⟩
  | 89 => ⟨S1x2048, .i32⟩
  | 90 => ⟨S1x2048, .i32⟩
  | 91 => ⟨S1x2048, .i32⟩
  | 92 => ⟨S_, .f32⟩
  | 93 => ⟨S2x2048, .f32⟩
  | 94 => ⟨S2x2048, .f32⟩
  | 95 => ⟨S2x2048x1, .f32⟩
  | 96 => ⟨S_, .i32⟩
  | 97 => ⟨S1x2048, .i32⟩
  | 98 => ⟨S1x2048, .i1⟩
  | 99 => ⟨S2x2048, .i1⟩
  | 100 => ⟨S2x2048, .i1⟩
  | 101 => ⟨S2x2048x1, .i1⟩
  | 102 => ⟨S2x2048x1024, .f32⟩
  | 103 => ⟨S2x2048x1024, .f32⟩
  | 104 => ⟨S_, .f32⟩
  | 105 => ⟨S_, .f32⟩
  | 106 => ⟨S2x2048x1024, .i1⟩
  | 107 => ⟨S2x2048x1024, .f32⟩
  | 108 => ⟨S2x2048x1024, .f32⟩
  | 109 => ⟨S2x2048x1024, .f32⟩
  | 110 => ⟨S_, .i32⟩
  | 111 => ⟨S1x2048, .i32⟩
  | 112 => ⟨S1x2048, .i1⟩
  | 113 => ⟨S2x2048, .i1⟩
  | 114 => ⟨S2x2048, .i1⟩
  | 115 => ⟨S2x2048x1, .i1⟩
  | 116 => ⟨S2x2048x1024, .f32⟩
  | 117 => ⟨S2x2048x1024, .f32⟩
  | 118 => ⟨S_, .f32⟩
  | 119 => ⟨S_, .f32⟩
  | 120 => ⟨S2x2048x1024, .i1⟩
  | 121 => ⟨S2x2048x1024, .f32⟩
  | 122 => ⟨S2x2048x1024, .f32⟩
  | 123 => ⟨S2x2048x1024, .f32⟩
  | 124 => ⟨S_, .i32⟩
  | 125 => ⟨S1x2048, .i32⟩
  | 126 => ⟨S1x2048, .i1⟩
  | 127 => ⟨S2x2048, .i1⟩
  | _ => ⟨S2x2048x1024, .f32⟩

abbrev hbmTy0_2 (i : Nat) : BufTy := match i % 128 with
  | 0 => ⟨S2x2048, .i1⟩
  | 1 => ⟨S2x2048x1, .i1⟩
  | 2 => ⟨S2x2048x1024, .f32⟩
  | 3 => ⟨S2x2048x1024, .f32⟩
  | 4 => ⟨S_, .f32⟩
  | 5 => ⟨S_, .f32⟩
  | 6 => ⟨S2x2048x1024, .i1⟩
  | 7 => ⟨S2x2048x1024, .f32⟩
  | 8 => ⟨S2x2048x1024, .f32⟩
  | 9 => ⟨S2x2048x1024, .f32⟩
  | 10 => ⟨S_, .i32⟩
  | 11 => ⟨S1x2048, .i32⟩
  | 12 => ⟨S1x2048, .i1⟩
  | 13 => ⟨S2x2048, .i1⟩
  | 14 => ⟨S2x2048, .i1⟩
  | 15 => ⟨S2x2048x1, .i1⟩
  | 16 => ⟨S2x2048x1024, .f32⟩
  | 17 => ⟨S2x2048x1024, .f32⟩
  | 18 => ⟨S_, .f32⟩
  | 19 => ⟨S_, .f32⟩
  | 20 => ⟨S2x2048x1024, .i1⟩
  | 21 => ⟨S2x2048x1024, .f32⟩
  | 22 => ⟨S2x2048x1024, .f32⟩
  | 23 => ⟨S2x2048x1024, .f32⟩
  | 24 => ⟨S_, .i32⟩
  | 25 => ⟨S1x2048, .i32⟩
  | 26 => ⟨S1x2048, .i1⟩
  | 27 => ⟨S2x2048, .i1⟩
  | 28 => ⟨S2x2048, .i1⟩
  | 29 => ⟨S2x2048x1, .i1⟩
  | 30 => ⟨S2x2048x1024, .f32⟩
  | 31 => ⟨S2x2048x1024, .f32⟩
  | 32 => ⟨S_, .f32⟩
  | 33 => ⟨S_, .f32⟩
  | 34 => ⟨S2x2048x1024, .i1⟩
  | 35 => ⟨S2x2048x1024, .f32⟩
  | 36 => ⟨S2x2048x1024, .f32⟩
  | 37 => ⟨S2x2048x1024, .f32⟩
  | 38 => ⟨S_, .i32⟩
  | 39 => ⟨S1x2048, .i32⟩
  | 40 => ⟨S1x2048, .i1⟩
  | 41 => ⟨S2x2048, .i1⟩
  | 42 => ⟨S2x2048, .i1⟩
  | 43 => ⟨S2x2048x1, .i1⟩
  | 44 => ⟨S2x2048x1024, .f32⟩
  | 45 => ⟨S2x2048x1024, .f32⟩
  | 46 => ⟨S_, .f32⟩
  | 47 => ⟨S_, .f32⟩
  | 48 => ⟨S2x2048x1024, .i1⟩
  | 49 => ⟨S2x2048x1024, .f32⟩
  | 50 => ⟨S2x2048x1024, .f32⟩
  | 51 => ⟨S2x2048x1024, .f32⟩
  | 52 => ⟨S_, .i32⟩
  | 53 => ⟨S1x2048, .i32⟩
  | 54 => ⟨S1x2048, .i1⟩
  | 55 => ⟨S2x2048, .i1⟩
  | 56 => ⟨S2x2048, .i1⟩
  | 57 => ⟨S2x2048x1, .i1⟩
  | 58 => ⟨S2x2048x1024, .f32⟩
  | 59 => ⟨S2x2048x1024, .f32⟩
  | 60 => ⟨S_, .f32⟩
  | 61 => ⟨S_, .f32⟩
  | 62 => ⟨S2x2048x1024, .i1⟩
  | 63 => ⟨S2x2048x1024, .f32⟩
  | 64 => ⟨S2x2048x1024, .f32⟩
  | 65 => ⟨S2x2048x1024, .f32⟩
  | 66 => ⟨S_, .i32⟩
  | 67 => ⟨S1x2048, .i32⟩
  | 68 => ⟨S1x2048, .i1⟩
  | 69 => ⟨S2x2048, .i1⟩
  | 70 => ⟨S2x2048, .i1⟩
  | 71 => ⟨S2x2048x1, .i1⟩
  | 72 => ⟨S2x2048x1024, .f32⟩
  | 73 => ⟨S2x2048x1024, .f32⟩
  | 74 => ⟨S_, .f32⟩
  | 75 => ⟨S_, .f32⟩
  | 76 => ⟨S2x2048x1024, .i1⟩
  | 77 => ⟨S2x2048x1024, .f32⟩
  | 78 => ⟨S2x2048x1024, .f32⟩
  | 79 => ⟨S2x2048x1024, .f32⟩
  | 80 => ⟨S_, .i32⟩
  | 81 => ⟨S2x2048, .i32⟩
  | 82 => ⟨S2x2048, .i1⟩
  | 83 => ⟨S1x2048, .i32⟩
  | 84 => ⟨S_, .i32⟩
  | 85 => ⟨S1x2048, .i32⟩
  | 86 => ⟨S1x2048, .i32⟩
  | 87 => ⟨S_, .i32⟩
  | 88 => ⟨S1x2048, .i32⟩
  | 89 => ⟨S1x2048, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1x2048, .i32⟩
  | 97 => ⟨S1x2048, .i32⟩
  | 98 => ⟨S_, .i32⟩
  | 99 => ⟨S1x2048, .i32⟩
  | 100 => ⟨S1x2048, .i1⟩
  | 101 => ⟨S_, .i32⟩
  | 102 => ⟨S1x2048, .i32⟩
  | 103 => ⟨S1x2048, .i1⟩
  | 104 => ⟨S_, .i32⟩
  | 105 => ⟨S_, .i1⟩
  | 106 => ⟨S1x2048, .i1⟩
  | 107 => ⟨S1x2048, .i1⟩
  | 108 => ⟨S1x2048, .i1⟩
  | 109 => ⟨S1x2048, .i32⟩
  | 110 => ⟨S1x2048, .i32⟩
  | 111 => ⟨S1x2048, .i32⟩
  | 112 => ⟨S_, .f32⟩
  | 113 => ⟨S2x2048, .f32⟩
  | 114 => ⟨S2x2048, .f32⟩
  | 115 => ⟨S2x2048x1, .f32⟩
  | 116 => ⟨S_, .i32⟩
  | 117 => ⟨S1x2048, .i32⟩
  | 118 => ⟨S1x2048, .i1⟩
  | 119 => ⟨S2x2048, .i1⟩
  | 120 => ⟨S2x2048, .i1⟩
  | 121 => ⟨S2x2048x1, .i1⟩
  | 122 => ⟨S2x2048x1024, .f32⟩
  | 123 => ⟨S2x2048x1024, .f32⟩
  | 124 => ⟨S_, .f32⟩
  | 125 => ⟨S_, .f32⟩
  | 126 => ⟨S2x2048x1024, .i1⟩
  | 127 => ⟨S2x2048x1024, .f32⟩
  | _ => ⟨S2x2048x1024, .f32⟩

abbrev hbmTy0_3 (i : Nat) : BufTy := match i % 128 with
  | 0 => ⟨S2x2048x1024, .f32⟩
  | 1 => ⟨S2x2048x1024, .f32⟩
  | 2 => ⟨S_, .i32⟩
  | 3 => ⟨S1x2048, .i32⟩
  | 4 => ⟨S1x2048, .i1⟩
  | 5 => ⟨S2x2048, .i1⟩
  | 6 => ⟨S2x2048, .i1⟩
  | 7 => ⟨S2x2048x1, .i1⟩
  | 8 => ⟨S2x2048x1024, .f32⟩
  | 9 => ⟨S2x2048x1024, .f32⟩
  | 10 => ⟨S_, .f32⟩
  | 11 => ⟨S_, .f32⟩
  | 12 => ⟨S2x2048x1024, .i1⟩
  | 13 => ⟨S2x2048x1024, .f32⟩
  | 14 => ⟨S2x2048x1024, .f32⟩
  | 15 => ⟨S2x2048x1024, .f32⟩
  | 16 => ⟨S_, .i32⟩
  | 17 => ⟨S1x2048, .i32⟩
  | 18 => ⟨S1x2048, .i1⟩
  | 19 => ⟨S2x2048, .i1⟩
  | 20 => ⟨S2x2048, .i1⟩
  | 21 => ⟨S2x2048x1, .i1⟩
  | 22 => ⟨S2x2048x1024, .f32⟩
  | 23 => ⟨S2x2048x1024, .f32⟩
  | 24 => ⟨S_, .f32⟩
  | 25 => ⟨S_, .f32⟩
  | 26 => ⟨S2x2048x1024, .i1⟩
  | 27 => ⟨S2x2048x1024, .f32⟩
  | 28 => ⟨S2x2048x1024, .f32⟩
  | 29 => ⟨S2x2048x1024, .f32⟩
  | 30 => ⟨S_, .i32⟩
  | 31 => ⟨S1x2048, .i32⟩
  | 32 => ⟨S1x2048, .i1⟩
  | 33 => ⟨S2x2048, .i1⟩
  | 34 => ⟨S2x2048, .i1⟩
  | 35 => ⟨S2x2048x1, .i1⟩
  | 36 => ⟨S2x2048x1024, .f32⟩
  | 37 => ⟨S2x2048x1024, .f32⟩
  | 38 => ⟨S_, .f32⟩
  | 39 => ⟨S_, .f32⟩
  | 40 => ⟨S2x2048x1024, .i1⟩
  | 41 => ⟨S2x2048x1024, .f32⟩
  | 42 => ⟨S2x2048x1024, .f32⟩
  | 43 => ⟨S2x2048x1024, .f32⟩
  | 44 => ⟨S_, .i32⟩
  | 45 => ⟨S1x2048, .i32⟩
  | 46 => ⟨S1x2048, .i1⟩
  | 47 => ⟨S2x2048, .i1⟩
  | 48 => ⟨S2x2048, .i1⟩
  | 49 => ⟨S2x2048x1, .i1⟩
  | 50 => ⟨S2x2048x1024, .f32⟩
  | 51 => ⟨S2x2048x1024, .f32⟩
  | 52 => ⟨S_, .f32⟩
  | 53 => ⟨S_, .f32⟩
  | 54 => ⟨S2x2048x1024, .i1⟩
  | 55 => ⟨S2x2048x1024, .f32⟩
  | 56 => ⟨S2x2048x1024, .f32⟩
  | 57 => ⟨S2x2048x1024, .f32⟩
  | 58 => ⟨S_, .i32⟩
  | 59 => ⟨S1x2048, .i32⟩
  | 60 => ⟨S1x2048, .i1⟩
  | 61 => ⟨S2x2048, .i1⟩
  | 62 => ⟨S2x2048, .i1⟩
  | 63 => ⟨S2x2048x1, .i1⟩
  | 64 => ⟨S2x2048x1024, .f32⟩
  | 65 => ⟨S2x2048x1024, .f32⟩
  | 66 => ⟨S_, .f32⟩
  | 67 => ⟨S_, .f32⟩
  | 68 => ⟨S2x2048x1024, .i1⟩
  | 69 => ⟨S2x2048x1024, .f32⟩
  | 70 => ⟨S2x2048x1024, .f32⟩
  | 71 => ⟨S2x2048x1024, .f32⟩
  | 72 => ⟨S_, .i32⟩
  | 73 => ⟨S1x2048, .i32⟩
  | 74 => ⟨S1x2048, .i1⟩
  | 75 => ⟨S2x2048, .i1⟩
  | 76 => ⟨S2x2048, .i1⟩
  | 77 => ⟨S2x2048x1, .i1⟩
  | 78 => ⟨S2x2048x1024, .f32⟩
  | 79 => ⟨S2x2048x1024, .f32⟩
  | 80 => ⟨S_, .f32⟩
  | 81 => ⟨S_, .f32⟩
  | 82 => ⟨S2x2048x1024, .i1⟩
  | 83 => ⟨S2x2048x1024, .f32⟩
  | 84 => ⟨S2x2048x1024, .f32⟩
  | 85 => ⟨S2x2048x1024, .f32⟩
  | 86 => ⟨S_, .i32⟩
  | 87 => ⟨S1x2048, .i32⟩
  | 88 => ⟨S1x2048, .i1⟩
  | 89 => ⟨S2x2048, .i1⟩
  | 90 => ⟨S2x2048, .i1⟩
  | 91 => ⟨S2x2048x1, .i1⟩
  | 92 => ⟨S2x2048x1024, .f32⟩
  | 93 => ⟨S2x2048x1024, .f32⟩
  | 94 => ⟨S_, .f32⟩
  | 95 => ⟨S_, .f32⟩
  | 96 => ⟨S2x2048x1024, .i1⟩
  | 97 => ⟨S2x2048x1024, .f32⟩
  | 98 => ⟨S2x2048x1024, .f32⟩
  | 99 => ⟨S2x2048x1024, .f32⟩
  | 100 => ⟨S_, .i32⟩
  | 101 => ⟨S2x2048, .i32⟩
  | 102 => ⟨S2x2048, .i1⟩
  | 103 => ⟨S1x2048, .i32⟩
  | 104 => ⟨S_, .i32⟩
  | 105 => ⟨S1x2048, .i32⟩
  | 106 => ⟨S1x2048, .i32⟩
  | 107 => ⟨S_, .i32⟩
  | 108 => ⟨S1x2048, .i32⟩
  | 109 => ⟨S1x2048, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S1x2048, .i32⟩
  | 117 => ⟨S1x2048, .i32⟩
  | 118 => ⟨S_, .i32⟩
  | 119 => ⟨S1x2048, .i32⟩
  | 120 => ⟨S1x2048, .i1⟩
  | 121 => ⟨S_, .i32⟩
  | 122 => ⟨S1x2048, .i32⟩
  | 123 => ⟨S1x2048, .i1⟩
  | 124 => ⟨S_, .i32⟩
  | 125 => ⟨S_, .i1⟩
  | 126 => ⟨S1x2048, .i1⟩
  | 127 => ⟨S1x2048, .i1⟩
  | _ => ⟨S2x2048x1024, .f32⟩

abbrev hbmTy0_4 (i : Nat) : BufTy := match i % 128 with
  | 0 => ⟨S1x2048, .i1⟩
  | 1 => ⟨S1x2048, .i32⟩
  | 2 => ⟨S1x2048, .i32⟩
  | 3 => ⟨S1x2048, .i32⟩
  | 4 => ⟨S_, .f32⟩
  | 5 => ⟨S2x2048, .f32⟩
  | 6 => ⟨S2x2048, .f32⟩
  | 7 => ⟨S2x2048x1, .f32⟩
  | 8 => ⟨S_, .i32⟩
  | 9 => ⟨S1x2048, .i32⟩
  | 10 => ⟨S1x2048, .i1⟩
  | 11 => ⟨S2x2048, .i1⟩
  | 12 => ⟨S2x2048, .i1⟩
  | 13 => ⟨S2x2048x1, .i1⟩
  | 14 => ⟨S2x2048x1024, .f32⟩
  | 15 => ⟨S2x2048x1024, .f32⟩
  | 16 => ⟨S_, .f32⟩
  | 17 => ⟨S_, .f32⟩
  | 18 => ⟨S2x2048x1024, .i1⟩
  | 19 => ⟨S2x2048x1024, .f32⟩
  | 20 => ⟨S2x2048x1024, .f32⟩
  | 21 => ⟨S2x2048x1024, .f32⟩
  | 22 => ⟨S_, .i32⟩
  | 23 => ⟨S1x2048, .i32⟩
  | 24 => ⟨S1x2048, .i1⟩
  | 25 => ⟨S2x2048, .i1⟩
  | 26 => ⟨S2x2048, .i1⟩
  | 27 => ⟨S2x2048x1, .i1⟩
  | 28 => ⟨S2x2048x1024, .f32⟩
  | 29 => ⟨S2x2048x1024, .f32⟩
  | 30 => ⟨S_, .f32⟩
  | 31 => ⟨S_, .f32⟩
  | 32 => ⟨S2x2048x1024, .i1⟩
  | 33 => ⟨S2x2048x1024, .f32⟩
  | 34 => ⟨S2x2048x1024, .f32⟩
  | 35 => ⟨S2x2048x1024, .f32⟩
  | 36 => ⟨S_, .i32⟩
  | 37 => ⟨S1x2048, .i32⟩
  | 38 => ⟨S1x2048, .i1⟩
  | 39 => ⟨S2x2048, .i1⟩
  | 40 => ⟨S2x2048, .i1⟩
  | 41 => ⟨S2x2048x1, .i1⟩
  | 42 => ⟨S2x2048x1024, .f32⟩
  | 43 => ⟨S2x2048x1024, .f32⟩
  | 44 => ⟨S_, .f32⟩
  | 45 => ⟨S_, .f32⟩
  | 46 => ⟨S2x2048x1024, .i1⟩
  | 47 => ⟨S2x2048x1024, .f32⟩
  | 48 => ⟨S2x2048x1024, .f32⟩
  | 49 => ⟨S2x2048x1024, .f32⟩
  | 50 => ⟨S_, .i32⟩
  | 51 => ⟨S1x2048, .i32⟩
  | 52 => ⟨S1x2048, .i1⟩
  | 53 => ⟨S2x2048, .i1⟩
  | 54 => ⟨S2x2048, .i1⟩
  | 55 => ⟨S2x2048x1, .i1⟩
  | 56 => ⟨S2x2048x1024, .f32⟩
  | 57 => ⟨S2x2048x1024, .f32⟩
  | 58 => ⟨S_, .f32⟩
  | 59 => ⟨S_, .f32⟩
  | 60 => ⟨S2x2048x1024, .i1⟩
  | 61 => ⟨S2x2048x1024, .f32⟩
  | 62 => ⟨S2x2048x1024, .f32⟩
  | 63 => ⟨S2x2048x1024, .f32⟩
  | 64 => ⟨S_, .i32⟩
  | 65 => ⟨S1x2048, .i32⟩
  | 66 => ⟨S1x2048, .i1⟩
  | 67 => ⟨S2x2048, .i1⟩
  | 68 => ⟨S2x2048, .i1⟩
  | 69 => ⟨S2x2048x1, .i1⟩
  | 70 => ⟨S2x2048x1024, .f32⟩
  | 71 => ⟨S2x2048x1024, .f32⟩
  | 72 => ⟨S_, .f32⟩
  | 73 => ⟨S_, .f32⟩
  | 74 => ⟨S2x2048x1024, .i1⟩
  | 75 => ⟨S2x2048x1024, .f32⟩
  | 76 => ⟨S2x2048x1024, .f32⟩
  | 77 => ⟨S2x2048x1024, .f32⟩
  | 78 => ⟨S_, .i32⟩
  | 79 => ⟨S1x2048, .i32⟩
  | 80 => ⟨S1x2048, .i1⟩
  | 81 => ⟨S2x2048, .i1⟩
  | 82 => ⟨S2x2048, .i1⟩
  | 83 => ⟨S2x2048x1, .i1⟩
  | 84 => ⟨S2x2048x1024, .f32⟩
  | 85 => ⟨S2x2048x1024, .f32⟩
  | 86 => ⟨S_, .f32⟩
  | 87 => ⟨S_, .f32⟩
  | 88 => ⟨S2x2048x1024, .i1⟩
  | 89 => ⟨S2x2048x1024, .f32⟩
  | 90 => ⟨S2x2048x1024, .f32⟩
  | 91 => ⟨S2x2048x1024, .f32⟩
  | 92 => ⟨S_, .i32⟩
  | 93 => ⟨S1x2048, .i32⟩
  | 94 => ⟨S1x2048, .i1⟩
  | 95 => ⟨S2x2048, .i1⟩
  | 96 => ⟨S2x2048, .i1⟩
  | 97 => ⟨S2x2048x1, .i1⟩
  | 98 => ⟨S2x2048x1024, .f32⟩
  | 99 => ⟨S2x2048x1024, .f32⟩
  | 100 => ⟨S_, .f32⟩
  | 101 => ⟨S_, .f32⟩
  | 102 => ⟨S2x2048x1024, .i1⟩
  | 103 => ⟨S2x2048x1024, .f32⟩
  | 104 => ⟨S2x2048x1024, .f32⟩
  | 105 => ⟨S2x2048x1024, .f32⟩
  | 106 => ⟨S_, .i32⟩
  | 107 => ⟨S1x2048, .i32⟩
  | 108 => ⟨S1x2048, .i1⟩
  | 109 => ⟨S2x2048, .i1⟩
  | 110 => ⟨S2x2048, .i1⟩
  | 111 => ⟨S2x2048x1, .i1⟩
  | 112 => ⟨S2x2048x1024, .f32⟩
  | 113 => ⟨S2x2048x1024, .f32⟩
  | 114 => ⟨S_, .f32⟩
  | 115 => ⟨S_, .f32⟩
  | 116 => ⟨S2x2048x1024, .i1⟩
  | 117 => ⟨S2x2048x1024, .f32⟩
  | 118 => ⟨S2x2048x1024, .f32⟩
  | 119 => ⟨S2x2048x1024, .f32⟩
  | 120 => ⟨S_, .i32⟩
  | 121 => ⟨S2x2048, .i32⟩
  | 122 => ⟨S2x2048, .i1⟩
  | 123 => ⟨S1x2048, .i32⟩
  | 124 => ⟨S_, .i32⟩
  | 125 => ⟨S1x2048, .i32⟩
  | 126 => ⟨S1x2048, .i32⟩
  | 127 => ⟨S_, .i32⟩
  | _ => ⟨S2x2048x1024, .f32⟩

abbrev hbmTy0_5 (i : Nat) : BufTy := match i % 128 with
  | 0 => ⟨S1x2048, .i32⟩
  | 1 => ⟨S1x2048, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S1x2048, .i32⟩
  | 9 => ⟨S1x2048, .i32⟩
  | 10 => ⟨S_, .i32⟩
  | 11 => ⟨S1x2048, .i32⟩
  | 12 => ⟨S1x2048, .i1⟩
  | 13 => ⟨S_, .i32⟩
  | 14 => ⟨S1x2048, .i32⟩
  | 15 => ⟨S1x2048, .i1⟩
  | 16 => ⟨S_, .i32⟩
  | 17 => ⟨S_, .i1⟩
  | 18 => ⟨S1x2048, .i1⟩
  | 19 => ⟨S1x2048, .i1⟩
  | 20 => ⟨S1x2048, .i1⟩
  | 21 => ⟨S1x2048, .i32⟩
  | 22 => ⟨S1x2048, .i32⟩
  | 23 => ⟨S1x2048, .i32⟩
  | 24 => ⟨S_, .f32⟩
  | 25 => ⟨S2x2048, .f32⟩
  | 26 => ⟨S2x2048, .f32⟩
  | 27 => ⟨S2x2048x1, .f32⟩
  | 28 => ⟨S_, .i32⟩
  | 29 => ⟨S1x2048, .i32⟩
  | 30 => ⟨S1x2048, .i1⟩
  | 31 => ⟨S2x2048, .i1⟩
  | 32 => ⟨S2x2048, .i1⟩
  | 33 => ⟨S2x2048x1, .i1⟩
  | 34 => ⟨S2x2048x1024, .f32⟩
  | 35 => ⟨S2x2048x1024, .f32⟩
  | 36 => ⟨S_, .f32⟩
  | 37 => ⟨S_, .f32⟩
  | 38 => ⟨S2x2048x1024, .i1⟩
  | 39 => ⟨S2x2048x1024, .f32⟩
  | 40 => ⟨S2x2048x1024, .f32⟩
  | 41 => ⟨S2x2048x1024, .f32⟩
  | 42 => ⟨S_, .i32⟩
  | 43 => ⟨S1x2048, .i32⟩
  | 44 => ⟨S1x2048, .i1⟩
  | 45 => ⟨S2x2048, .i1⟩
  | 46 => ⟨S2x2048, .i1⟩
  | 47 => ⟨S2x2048x1, .i1⟩
  | 48 => ⟨S2x2048x1024, .f32⟩
  | 49 => ⟨S2x2048x1024, .f32⟩
  | 50 => ⟨S_, .f32⟩
  | 51 => ⟨S_, .f32⟩
  | 52 => ⟨S2x2048x1024, .i1⟩
  | 53 => ⟨S2x2048x1024, .f32⟩
  | 54 => ⟨S2x2048x1024, .f32⟩
  | 55 => ⟨S2x2048x1024, .f32⟩
  | 56 => ⟨S_, .i32⟩
  | 57 => ⟨S1x2048, .i32⟩
  | 58 => ⟨S1x2048, .i1⟩
  | 59 => ⟨S2x2048, .i1⟩
  | 60 => ⟨S2x2048, .i1⟩
  | 61 => ⟨S2x2048x1, .i1⟩
  | 62 => ⟨S2x2048x1024, .f32⟩
  | 63 => ⟨S2x2048x1024, .f32⟩
  | 64 => ⟨S_, .f32⟩
  | 65 => ⟨S_, .f32⟩
  | 66 => ⟨S2x2048x1024, .i1⟩
  | 67 => ⟨S2x2048x1024, .f32⟩
  | 68 => ⟨S2x2048x1024, .f32⟩
  | 69 => ⟨S2x2048x1024, .f32⟩
  | 70 => ⟨S_, .i32⟩
  | 71 => ⟨S1x2048, .i32⟩
  | 72 => ⟨S1x2048, .i1⟩
  | 73 => ⟨S2x2048, .i1⟩
  | 74 => ⟨S2x2048, .i1⟩
  | 75 => ⟨S2x2048x1, .i1⟩
  | 76 => ⟨S2x2048x1024, .f32⟩
  | 77 => ⟨S2x2048x1024, .f32⟩
  | 78 => ⟨S_, .f32⟩
  | 79 => ⟨S_, .f32⟩
  | 80 => ⟨S2x2048x1024, .i1⟩
  | 81 => ⟨S2x2048x1024, .f32⟩
  | 82 => ⟨S2x2048x1024, .f32⟩
  | 83 => ⟨S2x2048x1024, .f32⟩
  | 84 => ⟨S_, .i32⟩
  | 85 => ⟨S1x2048, .i32⟩
  | 86 => ⟨S1x2048, .i1⟩
  | 87 => ⟨S2x2048, .i1⟩
  | 88 => ⟨S2x2048, .i1⟩
  | 89 => ⟨S2x2048x1, .i1⟩
  | 90 => ⟨S2x2048x1024, .f32⟩
  | 91 => ⟨S2x2048x1024, .f32⟩
  | 92 => ⟨S_, .f32⟩
  | 93 => ⟨S_, .f32⟩
  | 94 => ⟨S2x2048x1024, .i1⟩
  | 95 => ⟨S2x2048x1024, .f32⟩
  | 96 => ⟨S2x2048x1024, .f32⟩
  | 97 => ⟨S2x2048x1024, .f32⟩
  | 98 => ⟨S_, .i32⟩
  | 99 => ⟨S1x2048, .i32⟩
  | 100 => ⟨S1x2048, .i1⟩
  | 101 => ⟨S2x2048, .i1⟩
  | 102 => ⟨S2x2048, .i1⟩
  | 103 => ⟨S2x2048x1, .i1⟩
  | 104 => ⟨S2x2048x1024, .f32⟩
  | 105 => ⟨S2x2048x1024, .f32⟩
  | 106 => ⟨S_, .f32⟩
  | 107 => ⟨S_, .f32⟩
  | 108 => ⟨S2x2048x1024, .i1⟩
  | 109 => ⟨S2x2048x1024, .f32⟩
  | 110 => ⟨S2x2048x1024, .f32⟩
  | 111 => ⟨S2x2048x1024, .f32⟩
  | 112 => ⟨S_, .i32⟩
  | 113 => ⟨S1x2048, .i32⟩
  | 114 => ⟨S1x2048, .i1⟩
  | 115 => ⟨S2x2048, .i1⟩
  | 116 => ⟨S2x2048, .i1⟩
  | 117 => ⟨S2x2048x1, .i1⟩
  | 118 => ⟨S2x2048x1024, .f32⟩
  | 119 => ⟨S2x2048x1024, .f32⟩
  | 120 => ⟨S_, .f32⟩
  | 121 => ⟨S_, .f32⟩
  | 122 => ⟨S2x2048x1024, .i1⟩
  | 123 => ⟨S2x2048x1024, .f32⟩
  | 124 => ⟨S2x2048x1024, .f32⟩
  | 125 => ⟨S2x2048x1024, .f32⟩
  | 126 => ⟨S_, .i32⟩
  | 127 => ⟨S1x2048, .i32⟩
  | _ => ⟨S2x2048x1024, .f32⟩

abbrev hbmTy0_6 (i : Nat) : BufTy := match i % 128 with
  | 0 => ⟨S1x2048, .i1⟩
  | 1 => ⟨S2x2048, .i1⟩
  | 2 => ⟨S2x2048, .i1⟩
  | 3 => ⟨S2x2048x1, .i1⟩
  | 4 => ⟨S2x2048x1024, .f32⟩
  | 5 => ⟨S2x2048x1024, .f32⟩
  | 6 => ⟨S_, .f32⟩
  | 7 => ⟨S_, .f32⟩
  | 8 => ⟨S2x2048x1024, .i1⟩
  | 9 => ⟨S2x2048x1024, .f32⟩
  | 10 => ⟨S2x2048x1024, .f32⟩
  | 11 => ⟨S2x2048x1024, .f32⟩
  | 12 => ⟨S_, .i32⟩
  | 13 => ⟨S2x2048, .i32⟩
  | 14 => ⟨S2x2048, .i1⟩
  | 15 => ⟨S1x2048, .i32⟩
  | 16 => ⟨S_, .i32⟩
  | 17 => ⟨S1x2048, .i32⟩
  | 18 => ⟨S1x2048, .i32⟩
  | 19 => ⟨S_, .i32⟩
  | 20 => ⟨S1x2048, .i32⟩
  | 21 => ⟨S1x2048, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S1x2048, .i32⟩
  | 29 => ⟨S1x2048, .i32⟩
  | 30 => ⟨S_, .i32⟩
  | 31 => ⟨S1x2048, .i32⟩
  | 32 => ⟨S1x2048, .i1⟩
  | 33 => ⟨S_, .i32⟩
  | 34 => ⟨S1x2048, .i32⟩
  | 35 => ⟨S1x2048, .i1⟩
  | 36 => ⟨S_, .i32⟩
  | 37 => ⟨S_, .i1⟩
  | 38 => ⟨S1x2048, .i1⟩
  | 39 => ⟨S1x2048, .i1⟩
  | 40 => ⟨S1x2048, .i1⟩
  | 41 => ⟨S1x2048, .i32⟩
  | 42 => ⟨S1x2048, .i32⟩
  | 43 => ⟨S1x2048, .i32⟩
  | 44 => ⟨S_, .f32⟩
  | 45 => ⟨S2x2048, .f32⟩
  | 46 => ⟨S2x2048, .f32⟩
  | 47 => ⟨S2x2048x1, .f32⟩
  | 48 => ⟨S_, .i32⟩
  | 49 => ⟨S1x2048, .i32⟩
  | 50 => ⟨S1x2048, .i1⟩
  | 51 => ⟨S2x2048, .i1⟩
  | 52 => ⟨S2x2048, .i1⟩
  | 53 => ⟨S2x2048x1, .i1⟩
  | 54 => ⟨S2x2048x1024, .f32⟩
  | 55 => ⟨S2x2048x1024, .f32⟩
  | 56 => ⟨S_, .f32⟩
  | 57 => ⟨S_, .f32⟩
  | 58 => ⟨S2x2048x1024, .i1⟩
  | 59 => ⟨S2x2048x1024, .f32⟩
  | 60 => ⟨S2x2048x1024, .f32⟩
  | 61 => ⟨S2x2048x1024, .f32⟩
  | 62 => ⟨S_, .i32⟩
  | 63 => ⟨S1x2048, .i32⟩
  | 64 => ⟨S1x2048, .i1⟩
  | 65 => ⟨S2x2048, .i1⟩
  | 66 => ⟨S2x2048, .i1⟩
  | 67 => ⟨S2x2048x1, .i1⟩
  | 68 => ⟨S2x2048x1024, .f32⟩
  | 69 => ⟨S2x2048x1024, .f32⟩
  | 70 => ⟨S_, .f32⟩
  | 71 => ⟨S_, .f32⟩
  | 72 => ⟨S2x2048x1024, .i1⟩
  | 73 => ⟨S2x2048x1024, .f32⟩
  | 74 => ⟨S2x2048x1024, .f32⟩
  | 75 => ⟨S2x2048x1024, .f32⟩
  | 76 => ⟨S_, .i32⟩
  | 77 => ⟨S1x2048, .i32⟩
  | 78 => ⟨S1x2048, .i1⟩
  | 79 => ⟨S2x2048, .i1⟩
  | 80 => ⟨S2x2048, .i1⟩
  | 81 => ⟨S2x2048x1, .i1⟩
  | 82 => ⟨S2x2048x1024, .f32⟩
  | 83 => ⟨S2x2048x1024, .f32⟩
  | 84 => ⟨S_, .f32⟩
  | 85 => ⟨S_, .f32⟩
  | 86 => ⟨S2x2048x1024, .i1⟩
  | 87 => ⟨S2x2048x1024, .f32⟩
  | 88 => ⟨S2x2048x1024, .f32⟩
  | 89 => ⟨S2x2048x1024, .f32⟩
  | 90 => ⟨S_, .i32⟩
  | 91 => ⟨S1x2048, .i32⟩
  | 92 => ⟨S1x2048, .i1⟩
  | 93 => ⟨S2x2048, .i1⟩
  | 94 => ⟨S2x2048, .i1⟩
  | 95 => ⟨S2x2048x1, .i1⟩
  | 96 => ⟨S2x2048x1024, .f32⟩
  | 97 => ⟨S2x2048x1024, .f32⟩
  | 98 => ⟨S_, .f32⟩
  | 99 => ⟨S_, .f32⟩
  | 100 => ⟨S2x2048x1024, .i1⟩
  | 101 => ⟨S2x2048x1024, .f32⟩
  | 102 => ⟨S2x2048x1024, .f32⟩
  | 103 => ⟨S2x2048x1024, .f32⟩
  | 104 => ⟨S_, .i32⟩
  | 105 => ⟨S1x2048, .i32⟩
  | 106 => ⟨S1x2048, .i1⟩
  | 107 => ⟨S2x2048, .i1⟩
  | 108 => ⟨S2x2048, .i1⟩
  | 109 => ⟨S2x2048x1, .i1⟩
  | 110 => ⟨S2x2048x1024, .f32⟩
  | 111 => ⟨S2x2048x1024, .f32⟩
  | 112 => ⟨S_, .f32⟩
  | 113 => ⟨S_, .f32⟩
  | 114 => ⟨S2x2048x1024, .i1⟩
  | 115 => ⟨S2x2048x1024, .f32⟩
  | 116 => ⟨S2x2048x1024, .f32⟩
  | 117 => ⟨S2x2048x1024, .f32⟩
  | 118 => ⟨S_, .i32⟩
  | 119 => ⟨S1x2048, .i32⟩
  | 120 => ⟨S1x2048, .i1⟩
  | 121 => ⟨S2x2048, .i1⟩
  | 122 => ⟨S2x2048, .i1⟩
  | 123 => ⟨S2x2048x1, .i1⟩
  | 124 => ⟨S2x2048x1024, .f32⟩
  | 125 => ⟨S2x2048x1024, .f32⟩
  | 126 => ⟨S_, .f32⟩
  | 127 => ⟨S_, .f32⟩
  | _ => ⟨S2x2048x1024, .f32⟩

abbrev hbmTy0_7 (i : Nat) : BufTy := match i % 128 with
  | 0 => ⟨S2x2048x1024, .i1⟩
  | 1 => ⟨S2x2048x1024, .f32⟩
  | 2 => ⟨S2x2048x1024, .f32⟩
  | 3 => ⟨S2x2048x1024, .f32⟩
  | 4 => ⟨S_, .i32⟩
  | 5 => ⟨S1x2048, .i32⟩
  | 6 => ⟨S1x2048, .i1⟩
  | 7 => ⟨S2x2048, .i1⟩
  | 8 => ⟨S2x2048, .i1⟩
  | 9 => ⟨S2x2048x1, .i1⟩
  | 10 => ⟨S2x2048x1024, .f32⟩
  | 11 => ⟨S2x2048x1024, .f32⟩
  | 12 => ⟨S_, .f32⟩
  | 13 => ⟨S_, .f32⟩
  | 14 => ⟨S2x2048x1024, .i1⟩
  | 15 => ⟨S2x2048x1024, .f32⟩
  | 16 => ⟨S2x2048x1024, .f32⟩
  | 17 => ⟨S2x2048x1024, .f32⟩
  | 18 => ⟨S_, .i32⟩
  | 19 => ⟨S1x2048, .i32⟩
  | 20 => ⟨S1x2048, .i1⟩
  | 21 => ⟨S2x2048, .i1⟩
  | 22 => ⟨S2x2048, .i1⟩
  | 23 => ⟨S2x2048x1, .i1⟩
  | 24 => ⟨S2x2048x1024, .f32⟩
  | 25 => ⟨S2x2048x1024, .f32⟩
  | 26 => ⟨S_, .f32⟩
  | 27 => ⟨S_, .f32⟩
  | 28 => ⟨S2x2048x1024, .i1⟩
  | 29 => ⟨S2x2048x1024, .f32⟩
  | 30 => ⟨S2x2048x1024, .f32⟩
  | 31 => ⟨S2x2048x1024, .f32⟩
  | 32 => ⟨S_, .i32⟩
  | 33 => ⟨S2x2048, .i32⟩
  | 34 => ⟨S2x2048, .i1⟩
  | 35 => ⟨S1x2048, .i32⟩
  | 36 => ⟨S_, .i32⟩
  | 37 => ⟨S1x2048, .i32⟩
  | 38 => ⟨S1x2048, .i32⟩
  | 39 => ⟨S_, .i32⟩
  | 40 => ⟨S1x2048, .i32⟩
  | 41 => ⟨S1x2048, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1x2048, .i32⟩
  | 49 => ⟨S1x2048, .i32⟩
  | 50 => ⟨S_, .i32⟩
  | 51 => ⟨S1x2048, .i32⟩
  | 52 => ⟨S1x2048, .i1⟩
  | 53 => ⟨S_, .i32⟩
  | 54 => ⟨S1x2048, .i32⟩
  | 55 => ⟨S1x2048, .i1⟩
  | 56 => ⟨S_, .i32⟩
  | 57 => ⟨S_, .i1⟩
  | 58 => ⟨S1x2048, .i1⟩
  | 59 => ⟨S1x2048, .i1⟩
  | 60 => ⟨S1x2048, .i1⟩
  | 61 => ⟨S1x2048, .i32⟩
  | 62 => ⟨S1x2048, .i32⟩
  | 63 => ⟨S1x2048, .i32⟩
  | 64 => ⟨S_, .f32⟩
  | 65 => ⟨S2x2048, .f32⟩
  | 66 => ⟨S2x2048, .f32⟩
  | 67 => ⟨S2x2048x1, .f32⟩
  | 68 => ⟨S_, .i32⟩
  | 69 => ⟨S1x2048, .i32⟩
  | 70 => ⟨S1x2048, .i1⟩
  | 71 => ⟨S2x2048, .i1⟩
  | 72 => ⟨S2x2048, .i1⟩
  | 73 => ⟨S2x2048x1, .i1⟩
  | 74 => ⟨S2x2048x1024, .f32⟩
  | 75 => ⟨S2x2048x1024, .f32⟩
  | 76 => ⟨S_, .f32⟩
  | 77 => ⟨S_, .f32⟩
  | 78 => ⟨S2x2048x1024, .i1⟩
  | 79 => ⟨S2x2048x1024, .f32⟩
  | 80 => ⟨S2x2048x1024, .f32⟩
  | 81 => ⟨S2x2048x1024, .f32⟩
  | 82 => ⟨S_, .i32⟩
  | 83 => ⟨S1x2048, .i32⟩
  | 84 => ⟨S1x2048, .i1⟩
  | 85 => ⟨S2x2048, .i1⟩
  | 86 => ⟨S2x2048, .i1⟩
  | 87 => ⟨S2x2048x1, .i1⟩
  | 88 => ⟨S2x2048x1024, .f32⟩
  | 89 => ⟨S2x2048x1024, .f32⟩
  | 90 => ⟨S_, .f32⟩
  | 91 => ⟨S_, .f32⟩
  | 92 => ⟨S2x2048x1024, .i1⟩
  | 93 => ⟨S2x2048x1024, .f32⟩
  | 94 => ⟨S2x2048x1024, .f32⟩
  | 95 => ⟨S2x2048x1024, .f32⟩
  | 96 => ⟨S_, .i32⟩
  | 97 => ⟨S1x2048, .i32⟩
  | 98 => ⟨S1x2048, .i1⟩
  | 99 => ⟨S2x2048, .i1⟩
  | 100 => ⟨S2x2048, .i1⟩
  | 101 => ⟨S2x2048x1, .i1⟩
  | 102 => ⟨S2x2048x1024, .f32⟩
  | 103 => ⟨S2x2048x1024, .f32⟩
  | 104 => ⟨S_, .f32⟩
  | 105 => ⟨S_, .f32⟩
  | 106 => ⟨S2x2048x1024, .i1⟩
  | 107 => ⟨S2x2048x1024, .f32⟩
  | 108 => ⟨S2x2048x1024, .f32⟩
  | 109 => ⟨S2x2048x1024, .f32⟩
  | 110 => ⟨S_, .i32⟩
  | 111 => ⟨S1x2048, .i32⟩
  | 112 => ⟨S1x2048, .i1⟩
  | 113 => ⟨S2x2048, .i1⟩
  | 114 => ⟨S2x2048, .i1⟩
  | 115 => ⟨S2x2048x1, .i1⟩
  | 116 => ⟨S2x2048x1024, .f32⟩
  | 117 => ⟨S2x2048x1024, .f32⟩
  | 118 => ⟨S_, .f32⟩
  | 119 => ⟨S_, .f32⟩
  | 120 => ⟨S2x2048x1024, .i1⟩
  | 121 => ⟨S2x2048x1024, .f32⟩
  | 122 => ⟨S2x2048x1024, .f32⟩
  | 123 => ⟨S2x2048x1024, .f32⟩
  | 124 => ⟨S_, .i32⟩
  | 125 => ⟨S1x2048, .i32⟩
  | 126 => ⟨S1x2048, .i1⟩
  | 127 => ⟨S2x2048, .i1⟩
  | _ => ⟨S2x2048x1024, .f32⟩

abbrev hbmTy0_8 (i : Nat) : BufTy := match i % 128 with
  | 0 => ⟨S2x2048, .i1⟩
  | 1 => ⟨S2x2048x1, .i1⟩
  | 2 => ⟨S2x2048x1024, .f32⟩
  | 3 => ⟨S2x2048x1024, .f32⟩
  | 4 => ⟨S_, .f32⟩
  | 5 => ⟨S_, .f32⟩
  | 6 => ⟨S2x2048x1024, .i1⟩
  | 7 => ⟨S2x2048x1024, .f32⟩
  | 8 => ⟨S2x2048x1024, .f32⟩
  | 9 => ⟨S2x2048x1024, .f32⟩
  | 10 => ⟨S_, .i32⟩
  | 11 => ⟨S1x2048, .i32⟩
  | 12 => ⟨S1x2048, .i1⟩
  | 13 => ⟨S2x2048, .i1⟩
  | 14 => ⟨S2x2048, .i1⟩
  | 15 => ⟨S2x2048x1, .i1⟩
  | 16 => ⟨S2x2048x1024, .f32⟩
  | 17 => ⟨S2x2048x1024, .f32⟩
  | 18 => ⟨S_, .f32⟩
  | 19 => ⟨S_, .f32⟩
  | 20 => ⟨S2x2048x1024, .i1⟩
  | 21 => ⟨S2x2048x1024, .f32⟩
  | 22 => ⟨S2x2048x1024, .f32⟩
  | 23 => ⟨S2x2048x1024, .f32⟩
  | 24 => ⟨S_, .i32⟩
  | 25 => ⟨S1x2048, .i32⟩
  | 26 => ⟨S1x2048, .i1⟩
  | 27 => ⟨S2x2048, .i1⟩
  | 28 => ⟨S2x2048, .i1⟩
  | 29 => ⟨S2x2048x1, .i1⟩
  | 30 => ⟨S2x2048x1024, .f32⟩
  | 31 => ⟨S2x2048x1024, .f32⟩
  | 32 => ⟨S_, .f32⟩
  | 33 => ⟨S_, .f32⟩
  | 34 => ⟨S2x2048x1024, .i1⟩
  | 35 => ⟨S2x2048x1024, .f32⟩
  | 36 => ⟨S2x2048x1024, .f32⟩
  | 37 => ⟨S2x2048x1024, .f32⟩
  | 38 => ⟨S_, .i32⟩
  | 39 => ⟨S1x2048, .i32⟩
  | 40 => ⟨S1x2048, .i1⟩
  | 41 => ⟨S2x2048, .i1⟩
  | 42 => ⟨S2x2048, .i1⟩
  | 43 => ⟨S2x2048x1, .i1⟩
  | 44 => ⟨S2x2048x1024, .f32⟩
  | 45 => ⟨S2x2048x1024, .f32⟩
  | 46 => ⟨S_, .f32⟩
  | 47 => ⟨S_, .f32⟩
  | 48 => ⟨S2x2048x1024, .i1⟩
  | 49 => ⟨S2x2048x1024, .f32⟩
  | 50 => ⟨S2x2048x1024, .f32⟩
  | 51 => ⟨S2x2048x1024, .f32⟩
  | 52 => ⟨S_, .i32⟩
  | 53 => ⟨S2x2048, .i32⟩
  | 54 => ⟨S2x2048, .i1⟩
  | 55 => ⟨S1x2048, .i32⟩
  | 56 => ⟨S_, .i32⟩
  | 57 => ⟨S1x2048, .i32⟩
  | 58 => ⟨S1x2048, .i32⟩
  | 59 => ⟨S_, .i32⟩
  | 60 => ⟨S1x2048, .i32⟩
  | 61 => ⟨S1x2048, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S1x2048, .i32⟩
  | 69 => ⟨S1x2048, .i32⟩
  | 70 => ⟨S_, .i32⟩
  | 71 => ⟨S1x2048, .i32⟩
  | 72 => ⟨S1x2048, .i1⟩
  | 73 => ⟨S_, .i32⟩
  | 74 => ⟨S1x2048, .i32⟩
  | 75 => ⟨S1x2048, .i1⟩
  | 76 => ⟨S_, .i32⟩
  | 77 => ⟨S_, .i1⟩
  | 78 => ⟨S1x2048, .i1⟩
  | 79 => ⟨S1x2048, .i1⟩
  | 80 => ⟨S1x2048, .i1⟩
  | 81 => ⟨S1x2048, .i32⟩
  | 82 => ⟨S1x2048, .i32⟩
  | 83 => ⟨S1x2048, .i32⟩
  | 84 => ⟨S_, .f32⟩
  | 85 => ⟨S2x2048, .f32⟩
  | 86 => ⟨S2x2048, .f32⟩
  | 87 => ⟨S2x2048x1, .f32⟩
  | 88 => ⟨S_, .i32⟩
  | 89 => ⟨S1x2048, .i32⟩
  | 90 => ⟨S1x2048, .i1⟩
  | 91 => ⟨S2x2048, .i1⟩
  | 92 => ⟨S2x2048, .i1⟩
  | 93 => ⟨S2x2048x1, .i1⟩
  | 94 => ⟨S2x2048x1024, .f32⟩
  | 95 => ⟨S2x2048x1024, .f32⟩
  | 96 => ⟨S_, .f32⟩
  | 97 => ⟨S_, .f32⟩
  | 98 => ⟨S2x2048x1024, .i1⟩
  | 99 => ⟨S2x2048x1024, .f32⟩
  | 100 => ⟨S2x2048x1024, .f32⟩
  | 101 => ⟨S2x2048x1024, .f32⟩
  | 102 => ⟨S_, .i32⟩
  | 103 => ⟨S1x2048, .i32⟩
  | 104 => ⟨S1x2048, .i1⟩
  | 105 => ⟨S2x2048, .i1⟩
  | 106 => ⟨S2x2048, .i1⟩
  | 107 => ⟨S2x2048x1, .i1⟩
  | 108 => ⟨S2x2048x1024, .f32⟩
  | 109 => ⟨S2x2048x1024, .f32⟩
  | 110 => ⟨S_, .f32⟩
  | 111 => ⟨S_, .f32⟩
  | 112 => ⟨S2x2048x1024, .i1⟩
  | 113 => ⟨S2x2048x1024, .f32⟩
  | 114 => ⟨S2x2048x1024, .f32⟩
  | 115 => ⟨S2x2048x1024, .f32⟩
  | 116 => ⟨S_, .i32⟩
  | 117 => ⟨S1x2048, .i32⟩
  | 118 => ⟨S1x2048, .i1⟩
  | 119 => ⟨S2x2048, .i1⟩
  | 120 => ⟨S2x2048, .i1⟩
  | 121 => ⟨S2x2048x1, .i1⟩
  | 122 => ⟨S2x2048x1024, .f32⟩
  | 123 => ⟨S2x2048x1024, .f32⟩
  | 124 => ⟨S_, .f32⟩
  | 125 => ⟨S_, .f32⟩
  | 126 => ⟨S2x2048x1024, .i1⟩
  | 127 => ⟨S2x2048x1024, .f32⟩
  | _ => ⟨S2x2048x1024, .f32⟩

abbrev hbmTy0_9 (i : Nat) : BufTy := match i % 128 with
  | 0 => ⟨S2x2048x1024, .f32⟩
  | 1 => ⟨S2x2048x1024, .f32⟩
  | 2 => ⟨S_, .i32⟩
  | 3 => ⟨S1x2048, .i32⟩
  | 4 => ⟨S1x2048, .i1⟩
  | 5 => ⟨S2x2048, .i1⟩
  | 6 => ⟨S2x2048, .i1⟩
  | 7 => ⟨S2x2048x1, .i1⟩
  | 8 => ⟨S2x2048x1024, .f32⟩
  | 9 => ⟨S2x2048x1024, .f32⟩
  | 10 => ⟨S_, .f32⟩
  | 11 => ⟨S_, .f32⟩
  | 12 => ⟨S2x2048x1024, .i1⟩
  | 13 => ⟨S2x2048x1024, .f32⟩
  | 14 => ⟨S2x2048x1024, .f32⟩
  | 15 => ⟨S2x2048x1024, .f32⟩
  | 16 => ⟨S_, .i32⟩
  | 17 => ⟨S1x2048, .i32⟩
  | 18 => ⟨S1x2048, .i1⟩
  | 19 => ⟨S2x2048, .i1⟩
  | 20 => ⟨S2x2048, .i1⟩
  | 21 => ⟨S2x2048x1, .i1⟩
  | 22 => ⟨S2x2048x1024, .f32⟩
  | 23 => ⟨S2x2048x1024, .f32⟩
  | 24 => ⟨S_, .f32⟩
  | 25 => ⟨S_, .f32⟩
  | 26 => ⟨S2x2048x1024, .i1⟩
  | 27 => ⟨S2x2048x1024, .f32⟩
  | 28 => ⟨S2x2048x1024, .f32⟩
  | 29 => ⟨S2x2048x1024, .f32⟩
  | 30 => ⟨S_, .i32⟩
  | 31 => ⟨S1x2048, .i32⟩
  | 32 => ⟨S1x2048, .i1⟩
  | 33 => ⟨S2x2048, .i1⟩
  | 34 => ⟨S2x2048, .i1⟩
  | 35 => ⟨S2x2048x1, .i1⟩
  | 36 => ⟨S2x2048x1024, .f32⟩
  | 37 => ⟨S2x2048x1024, .f32⟩
  | 38 => ⟨S_, .f32⟩
  | 39 => ⟨S_, .f32⟩
  | 40 => ⟨S2x2048x1024, .i1⟩
  | 41 => ⟨S2x2048x1024, .f32⟩
  | 42 => ⟨S2x2048x1024, .f32⟩
  | 43 => ⟨S2x2048x1024, .f32⟩
  | 44 => ⟨S_, .i32⟩
  | 45 => ⟨S1x2048, .i32⟩
  | 46 => ⟨S1x2048, .i1⟩
  | 47 => ⟨S2x2048, .i1⟩
  | 48 => ⟨S2x2048, .i1⟩
  | 49 => ⟨S2x2048x1, .i1⟩
  | 50 => ⟨S2x2048x1024, .f32⟩
  | 51 => ⟨S2x2048x1024, .f32⟩
  | 52 => ⟨S_, .f32⟩
  | 53 => ⟨S_, .f32⟩
  | 54 => ⟨S2x2048x1024, .i1⟩
  | 55 => ⟨S2x2048x1024, .f32⟩
  | 56 => ⟨S2x2048x1024, .f32⟩
  | 57 => ⟨S2x2048x1024, .f32⟩
  | 58 => ⟨S_, .i32⟩
  | 59 => ⟨S1x2048, .i32⟩
  | 60 => ⟨S1x2048, .i1⟩
  | 61 => ⟨S2x2048, .i1⟩
  | 62 => ⟨S2x2048, .i1⟩
  | 63 => ⟨S2x2048x1, .i1⟩
  | 64 => ⟨S2x2048x1024, .f32⟩
  | 65 => ⟨S2x2048x1024, .f32⟩
  | 66 => ⟨S_, .f32⟩
  | 67 => ⟨S_, .f32⟩
  | 68 => ⟨S2x2048x1024, .i1⟩
  | 69 => ⟨S2x2048x1024, .f32⟩
  | 70 => ⟨S2x2048x1024, .f32⟩
  | 71 => ⟨S2x2048x1024, .f32⟩
  | 72 => ⟨S_, .i32⟩
  | 73 => ⟨S2x2048, .i32⟩
  | 74 => ⟨S2x2048, .i1⟩
  | 75 => ⟨S1x2048, .i32⟩
  | 76 => ⟨S_, .i32⟩
  | 77 => ⟨S1x2048, .i32⟩
  | 78 => ⟨S1x2048, .i32⟩
  | 79 => ⟨S_, .i32⟩
  | 80 => ⟨S1x2048, .i32⟩
  | 81 => ⟨S1x2048, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S1x2048, .i32⟩
  | 89 => ⟨S1x2048, .i32⟩
  | 90 => ⟨S_, .i32⟩
  | 91 => ⟨S1x2048, .i32⟩
  | 92 => ⟨S1x2048, .i1⟩
  | 93 => ⟨S_, .i32⟩
  | 94 => ⟨S1x2048, .i32⟩
  | 95 => ⟨S1x2048, .i1⟩
  | 96 => ⟨S_, .i32⟩
  | 97 => ⟨S_, .i1⟩
  | 98 => ⟨S1x2048, .i1⟩
  | 99 => ⟨S1x2048, .i1⟩
  | 100 => ⟨S1x2048, .i1⟩
  | 101 => ⟨S1x2048, .i32⟩
  | 102 => ⟨S1x2048, .i32⟩
  | 103 => ⟨S1x2048, .i32⟩
  | 104 => ⟨S_, .f32⟩
  | 105 => ⟨S2x2048, .f32⟩
  | 106 => ⟨S2x2048, .f32⟩
  | 107 => ⟨S2x2048x1, .f32⟩
  | 108 => ⟨S_, .i32⟩
  | 109 => ⟨S1x2048, .i32⟩
  | 110 => ⟨S1x2048, .i1⟩
  | 111 => ⟨S2x2048, .i1⟩
  | 112 => ⟨S2x2048, .i1⟩
  | 113 => ⟨S2x2048x1, .i1⟩
  | 114 => ⟨S2x2048x1024, .f32⟩
  | 115 => ⟨S2x2048x1024, .f32⟩
  | 116 => ⟨S_, .f32⟩
  | 117 => ⟨S_, .f32⟩
  | 118 => ⟨S2x2048x1024, .i1⟩
  | 119 => ⟨S2x2048x1024, .f32⟩
  | 120 => ⟨S2x2048x1024, .f32⟩
  | 121 => ⟨S2x2048x1024, .f32⟩
  | 122 => ⟨S_, .i32⟩
  | 123 => ⟨S1x2048, .i32⟩
  | 124 => ⟨S1x2048, .i1⟩
  | 125 => ⟨S2x2048, .i1⟩
  | 126 => ⟨S2x2048, .i1⟩
  | 127 => ⟨S2x2048x1, .i1⟩
  | _ => ⟨S2x2048x1024, .f32⟩

abbrev hbmTy0_10 (i : Nat) : BufTy := match i % 128 with
  | 0 => ⟨S2x2048x1024, .f32⟩
  | 1 => ⟨S2x2048x1024, .f32⟩
  | 2 => ⟨S_, .f32⟩
  | 3 => ⟨S_, .f32⟩
  | 4 => ⟨S2x2048x1024, .i1⟩
  | 5 => ⟨S2x2048x1024, .f32⟩
  | 6 => ⟨S2x2048x1024, .f32⟩
  | 7 => ⟨S2x2048x1024, .f32⟩
  | 8 => ⟨S_, .i32⟩
  | 9 => ⟨S1x2048, .i32⟩
  | 10 => ⟨S1x2048, .i1⟩
  | 11 => ⟨S2x2048, .i1⟩
  | 12 => ⟨S2x2048, .i1⟩
  | 13 => ⟨S2x2048x1, .i1⟩
  | 14 => ⟨S2x2048x1024, .f32⟩
  | 15 => ⟨S2x2048x1024, .f32⟩
  | 16 => ⟨S_, .f32⟩
  | 17 => ⟨S_, .f32⟩
  | 18 => ⟨S2x2048x1024, .i1⟩
  | 19 => ⟨S2x2048x1024, .f32⟩
  | 20 => ⟨S2x2048x1024, .f32⟩
  | 21 => ⟨S2x2048x1024, .f32⟩
  | 22 => ⟨S_, .i32⟩
  | 23 => ⟨S1x2048, .i32⟩
  | 24 => ⟨S1x2048, .i1⟩
  | 25 => ⟨S2x2048, .i1⟩
  | 26 => ⟨S2x2048, .i1⟩
  | 27 => ⟨S2x2048x1, .i1⟩
  | 28 => ⟨S2x2048x1024, .f32⟩
  | 29 => ⟨S2x2048x1024, .f32⟩
  | 30 => ⟨S_, .f32⟩
  | 31 => ⟨S_, .f32⟩
  | 32 => ⟨S2x2048x1024, .i1⟩
  | 33 => ⟨S2x2048x1024, .f32⟩
  | 34 => ⟨S2x2048x1024, .f32⟩
  | 35 => ⟨S2x2048x1024, .f32⟩
  | 36 => ⟨S_, .i32⟩
  | 37 => ⟨S1x2048, .i32⟩
  | 38 => ⟨S1x2048, .i1⟩
  | 39 => ⟨S2x2048, .i1⟩
  | 40 => ⟨S2x2048, .i1⟩
  | 41 => ⟨S2x2048x1, .i1⟩
  | 42 => ⟨S2x2048x1024, .f32⟩
  | 43 => ⟨S2x2048x1024, .f32⟩
  | 44 => ⟨S_, .f32⟩
  | 45 => ⟨S_, .f32⟩
  | 46 => ⟨S2x2048x1024, .i1⟩
  | 47 => ⟨S2x2048x1024, .f32⟩
  | 48 => ⟨S2x2048x1024, .f32⟩
  | 49 => ⟨S2x2048x1024, .f32⟩
  | 50 => ⟨S_, .i32⟩
  | 51 => ⟨S1x2048, .i32⟩
  | 52 => ⟨S1x2048, .i1⟩
  | 53 => ⟨S2x2048, .i1⟩
  | 54 => ⟨S2x2048, .i1⟩
  | 55 => ⟨S2x2048x1, .i1⟩
  | 56 => ⟨S2x2048x1024, .f32⟩
  | 57 => ⟨S2x2048x1024, .f32⟩
  | 58 => ⟨S_, .f32⟩
  | 59 => ⟨S_, .f32⟩
  | 60 => ⟨S2x2048x1024, .i1⟩
  | 61 => ⟨S2x2048x1024, .f32⟩
  | 62 => ⟨S2x2048x1024, .f32⟩
  | 63 => ⟨S2x2048x1024, .f32⟩
  | 64 => ⟨S_, .i32⟩
  | 65 => ⟨S1x2048, .i32⟩
  | 66 => ⟨S1x2048, .i1⟩
  | 67 => ⟨S2x2048, .i1⟩
  | 68 => ⟨S2x2048, .i1⟩
  | 69 => ⟨S2x2048x1, .i1⟩
  | 70 => ⟨S2x2048x1024, .f32⟩
  | 71 => ⟨S2x2048x1024, .f32⟩
  | 72 => ⟨S_, .f32⟩
  | 73 => ⟨S_, .f32⟩
  | 74 => ⟨S2x2048x1024, .i1⟩
  | 75 => ⟨S2x2048x1024, .f32⟩
  | 76 => ⟨S2x2048x1024, .f32⟩
  | 77 => ⟨S2x2048x1024, .f32⟩
  | 78 => ⟨S_, .i32⟩
  | 79 => ⟨S1x2048, .i32⟩
  | 80 => ⟨S1x2048, .i1⟩
  | 81 => ⟨S2x2048, .i1⟩
  | 82 => ⟨S2x2048, .i1⟩
  | 83 => ⟨S2x2048x1, .i1⟩
  | 84 => ⟨S2x2048x1024, .f32⟩
  | 85 => ⟨S2x2048x1024, .f32⟩
  | 86 => ⟨S_, .f32⟩
  | 87 => ⟨S_, .f32⟩
  | 88 => ⟨S2x2048x1024, .i1⟩
  | 89 => ⟨S2x2048x1024, .f32⟩
  | 90 => ⟨S2x2048x1024, .f32⟩
  | 91 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call3_cst : Ref sig .tc := ⟨.hbm, 80, rfl⟩
abbrev main_call3_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call4_cst : Ref sig .tc := ⟨.hbm, 99, rfl⟩
abbrev main_call4_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_call5_cst : Ref sig .tc := ⟨.hbm, 118, rfl⟩
abbrev main_call5_v0 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_call6_cst : Ref sig .tc := ⟨.hbm, 137, rfl⟩
abbrev main_call6_v0 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_call7_cst : Ref sig .tc := ⟨.hbm, 156, rfl⟩
abbrev main_call7_v0 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_call8_cst : Ref sig .tc := ⟨.hbm, 175, rfl⟩
abbrev main_call8_v0 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_3 : Ref sig .tc := ⟨.hbm, 186, rfl⟩
abbrev main_v153 : Ref sig .tc := ⟨.hbm, 187, rfl⟩
abbrev main_c_4 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_c_5 : Ref sig .tc := ⟨.hbm, 192, rfl⟩
abbrev main_v157 : Ref sig .tc := ⟨.hbm, 193, rfl⟩
abbrev main_v158 : Ref sig .tc := ⟨.hbm, 194, rfl⟩
abbrev main_c_6 : Ref sig .tc := ⟨.hbm, 195, rfl⟩
abbrev main_v159 : Ref sig .tc := ⟨.hbm, 196, rfl⟩
abbrev main_v160 : Ref sig .tc := ⟨.hbm, 197, rfl⟩
abbrev main_c_7 : Ref sig .tc := ⟨.hbm, 198, rfl⟩
abbrev main_call9_v0 : Ref sig .tc := ⟨.hbm, 199, rfl⟩
abbrev main_call9_c : Ref sig .tc := ⟨.hbm, 200, rfl⟩
abbrev main_call9_v1 : Ref sig .tc := ⟨.hbm, 201, rfl⟩
abbrev main_call9_c_0 : Ref sig .tc := ⟨.hbm, 202, rfl⟩
abbrev main_call9_v2 : Ref sig .tc := ⟨.hbm, 203, rfl⟩
abbrev main_call9_v3 : Ref sig .tc := ⟨.hbm, 204, rfl⟩
abbrev main_call9_v4 : Ref sig .tc := ⟨.hbm, 205, rfl⟩
abbrev main_call9_c_1 : Ref sig .tc := ⟨.hbm, 206, rfl⟩
abbrev main_call9_v5 : Ref sig .tc := ⟨.hbm, 207, rfl⟩
abbrev main_call9_v6 : Ref sig .tc := ⟨.hbm, 208, rfl⟩
abbrev main_call9_c_2 : Ref sig .tc := ⟨.hbm, 209, rfl⟩
abbrev main_call9_v7 : Ref sig .tc := ⟨.hbm, 210, rfl⟩
abbrev main_call9_v8 : Ref sig .tc := ⟨.hbm, 211, rfl⟩
abbrev main_call9_c_3 : Ref sig .tc := ⟨.hbm, 212, rfl⟩
abbrev main_call9_v9 : Ref sig .tc := ⟨.hbm, 213, rfl⟩
abbrev main_call9_v10 : Ref sig .tc := ⟨.hbm, 214, rfl⟩
abbrev main_call9_v11 : Ref sig .tc := ⟨.hbm, 215, rfl⟩
abbrev main_call9_v12 : Ref sig .tc := ⟨.hbm, 216, rfl⟩
abbrev main_call9_v13 : Ref sig .tc := ⟨.hbm, 217, rfl⟩
abbrev main_call9_v14 : Ref sig .tc := ⟨.hbm, 218, rfl⟩
abbrev main_v161 : Ref sig .tc := ⟨.hbm, 219, rfl⟩
abbrev main_cst_8 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_c_9 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_10 : Ref sig .tc := ⟨.hbm, 232, rfl⟩
abbrev main_call10_v0 : Ref sig .tc := ⟨.hbm, 233, rfl⟩
abbrev main_call10_v1 : Ref sig .tc := ⟨.hbm, 234, rfl⟩
abbrev main_call10_v2 : Ref sig .tc := ⟨.hbm, 235, rfl⟩
abbrev main_v172 : Ref sig .tc := ⟨.hbm, 236, rfl⟩
abbrev main_v173 : Ref sig .tc := ⟨.hbm, 237, rfl⟩
abbrev main_c_11 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_12 : Ref sig .tc := ⟨.hbm, 246, rfl⟩
abbrev main_call11_v0 : Ref sig .tc := ⟨.hbm, 247, rfl⟩
abbrev main_call11_v1 : Ref sig .tc := ⟨.hbm, 248, rfl⟩
abbrev main_call11_v2 : Ref sig .tc := ⟨.hbm, 249, rfl⟩
abbrev main_v181 : Ref sig .tc := ⟨.hbm, 250, rfl⟩
abbrev main_v182 : Ref sig .tc := ⟨.hbm, 251, rfl⟩
abbrev main_c_13 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_cst_14 : Ref sig .tc := ⟨.hbm, 260, rfl⟩
abbrev main_call12_v0 : Ref sig .tc := ⟨.hbm, 261, rfl⟩
abbrev main_call12_v1 : Ref sig .tc := ⟨.hbm, 262, rfl⟩
abbrev main_call12_v2 : Ref sig .tc := ⟨.hbm, 263, rfl⟩
abbrev main_v190 : Ref sig .tc := ⟨.hbm, 264, rfl⟩
abbrev main_v191 : Ref sig .tc := ⟨.hbm, 265, rfl⟩
abbrev main_c_15 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_16 : Ref sig .tc := ⟨.hbm, 274, rfl⟩
abbrev main_call13_v0 : Ref sig .tc := ⟨.hbm, 275, rfl⟩
abbrev main_call13_v1 : Ref sig .tc := ⟨.hbm, 276, rfl⟩
abbrev main_call13_v2 : Ref sig .tc := ⟨.hbm, 277, rfl⟩
abbrev main_v199 : Ref sig .tc := ⟨.hbm, 278, rfl⟩
abbrev main_v200 : Ref sig .tc := ⟨.hbm, 279, rfl⟩
abbrev main_c_17 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_cst_18 : Ref sig .tc := ⟨.hbm, 288, rfl⟩
abbrev main_call14_v0 : Ref sig .tc := ⟨.hbm, 289, rfl⟩
abbrev main_call14_v1 : Ref sig .tc := ⟨.hbm, 290, rfl⟩
abbrev main_call14_v2 : Ref sig .tc := ⟨.hbm, 291, rfl⟩
abbrev main_v208 : Ref sig .tc := ⟨.hbm, 292, rfl⟩
abbrev main_v209 : Ref sig .tc := ⟨.hbm, 293, rfl⟩
abbrev main_c_19 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_20 : Ref sig .tc := ⟨.hbm, 302, rfl⟩
abbrev main_call15_v0 : Ref sig .tc := ⟨.hbm, 303, rfl⟩
abbrev main_call15_v1 : Ref sig .tc := ⟨.hbm, 304, rfl⟩
abbrev main_call15_v2 : Ref sig .tc := ⟨.hbm, 305, rfl⟩
abbrev main_v217 : Ref sig .tc := ⟨.hbm, 306, rfl⟩
abbrev main_v218 : Ref sig .tc := ⟨.hbm, 307, rfl⟩
abbrev main_c_21 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_cst_22 : Ref sig .tc := ⟨.hbm, 316, rfl⟩
abbrev main_call16_v0 : Ref sig .tc := ⟨.hbm, 317, rfl⟩
abbrev main_call16_v1 : Ref sig .tc := ⟨.hbm, 318, rfl⟩
abbrev main_call16_v2 : Ref sig .tc := ⟨.hbm, 319, rfl⟩
abbrev main_v226 : Ref sig .tc := ⟨.hbm, 320, rfl⟩
abbrev main_v227 : Ref sig .tc := ⟨.hbm, 321, rfl⟩
abbrev main_c_23 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_cst_24 : Ref sig .tc := ⟨.hbm, 330, rfl⟩
abbrev main_call17_v0 : Ref sig .tc := ⟨.hbm, 331, rfl⟩
abbrev main_call17_v1 : Ref sig .tc := ⟨.hbm, 332, rfl⟩
abbrev main_call17_v2 : Ref sig .tc := ⟨.hbm, 333, rfl⟩
abbrev main_v235 : Ref sig .tc := ⟨.hbm, 334, rfl⟩
abbrev main_v236 : Ref sig .tc := ⟨.hbm, 335, rfl⟩
abbrev main_c_25 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_c_26 : Ref sig .tc := ⟨.hbm, 340, rfl⟩
abbrev main_v240 : Ref sig .tc := ⟨.hbm, 341, rfl⟩
abbrev main_v241 : Ref sig .tc := ⟨.hbm, 342, rfl⟩
abbrev main_c_27 : Ref sig .tc := ⟨.hbm, 343, rfl⟩
abbrev main_v242 : Ref sig .tc := ⟨.hbm, 344, rfl⟩
abbrev main_v243 : Ref sig .tc := ⟨.hbm, 345, rfl⟩
abbrev main_c_28 : Ref sig .tc := ⟨.hbm, 346, rfl⟩
abbrev main_call18_v0 : Ref sig .tc := ⟨.hbm, 347, rfl⟩
abbrev main_call18_c : Ref sig .tc := ⟨.hbm, 348, rfl⟩
abbrev main_call18_v1 : Ref sig .tc := ⟨.hbm, 349, rfl⟩
abbrev main_call18_c_0 : Ref sig .tc := ⟨.hbm, 350, rfl⟩
abbrev main_call18_v2 : Ref sig .tc := ⟨.hbm, 351, rfl⟩
abbrev main_call18_v3 : Ref sig .tc := ⟨.hbm, 352, rfl⟩
abbrev main_call18_v4 : Ref sig .tc := ⟨.hbm, 353, rfl⟩
abbrev main_call18_c_1 : Ref sig .tc := ⟨.hbm, 354, rfl⟩
abbrev main_call18_v5 : Ref sig .tc := ⟨.hbm, 355, rfl⟩
abbrev main_call18_v6 : Ref sig .tc := ⟨.hbm, 356, rfl⟩
abbrev main_call18_c_2 : Ref sig .tc := ⟨.hbm, 357, rfl⟩
abbrev main_call18_v7 : Ref sig .tc := ⟨.hbm, 358, rfl⟩
abbrev main_call18_v8 : Ref sig .tc := ⟨.hbm, 359, rfl⟩
abbrev main_call18_c_3 : Ref sig .tc := ⟨.hbm, 360, rfl⟩
abbrev main_call18_v9 : Ref sig .tc := ⟨.hbm, 361, rfl⟩
abbrev main_call18_v10 : Ref sig .tc := ⟨.hbm, 362, rfl⟩
abbrev main_call18_v11 : Ref sig .tc := ⟨.hbm, 363, rfl⟩
abbrev main_call18_v12 : Ref sig .tc := ⟨.hbm, 364, rfl⟩
abbrev main_call18_v13 : Ref sig .tc := ⟨.hbm, 365, rfl⟩
abbrev main_call18_v14 : Ref sig .tc := ⟨.hbm, 366, rfl⟩
abbrev main_v244 : Ref sig .tc := ⟨.hbm, 367, rfl⟩
abbrev main_cst_29 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_c_30 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_v252 : Ref sig .tc := ⟨.hbm, 377, rfl⟩
abbrev main_v253 : Ref sig .tc := ⟨.hbm, 378, rfl⟩
abbrev main_v254 : Ref sig .tc := ⟨.hbm, 379, rfl⟩
abbrev main_cst_31 : Ref sig .tc := ⟨.hbm, 380, rfl⟩
abbrev main_call19_v0 : Ref sig .tc := ⟨.hbm, 381, rfl⟩
abbrev main_call19_v1 : Ref sig .tc := ⟨.hbm, 382, rfl⟩
abbrev main_call19_v2 : Ref sig .tc := ⟨.hbm, 383, rfl⟩
abbrev main_v255 : Ref sig .tc := ⟨.hbm, 384, rfl⟩
abbrev main_v256 : Ref sig .tc := ⟨.hbm, 385, rfl⟩
abbrev main_c_32 : Ref sig .tc := ⟨.hbm, 386, rfl⟩
abbrev main_v257 : Ref sig .tc := ⟨.hbm, 387, rfl⟩
abbrev main_v258 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_cst_33 : Ref sig .tc := ⟨.hbm, 394, rfl⟩
abbrev main_call20_v0 : Ref sig .tc := ⟨.hbm, 395, rfl⟩
abbrev main_call20_v1 : Ref sig .tc := ⟨.hbm, 396, rfl⟩
abbrev main_call20_v2 : Ref sig .tc := ⟨.hbm, 397, rfl⟩
abbrev main_v264 : Ref sig .tc := ⟨.hbm, 398, rfl⟩
abbrev main_v265 : Ref sig .tc := ⟨.hbm, 399, rfl⟩
abbrev main_c_34 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_cst_35 : Ref sig .tc := ⟨.hbm, 408, rfl⟩
abbrev main_call21_v0 : Ref sig .tc := ⟨.hbm, 409, rfl⟩
abbrev main_call21_v1 : Ref sig .tc := ⟨.hbm, 410, rfl⟩
abbrev main_call21_v2 : Ref sig .tc := ⟨.hbm, 411, rfl⟩
abbrev main_v273 : Ref sig .tc := ⟨.hbm, 412, rfl⟩
abbrev main_v274 : Ref sig .tc := ⟨.hbm, 413, rfl⟩
abbrev main_c_36 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_v281 : Ref sig .tc := ⟨.hbm, 421, rfl⟩
abbrev main_cst_37 : Ref sig .tc := ⟨.hbm, 422, rfl⟩
abbrev main_call22_v0 : Ref sig .tc := ⟨.hbm, 423, rfl⟩
abbrev main_call22_v1 : Ref sig .tc := ⟨.hbm, 424, rfl⟩
abbrev main_call22_v2 : Ref sig .tc := ⟨.hbm, 425, rfl⟩
abbrev main_v282 : Ref sig .tc := ⟨.hbm, 426, rfl⟩
abbrev main_v283 : Ref sig .tc := ⟨.hbm, 427, rfl⟩
abbrev main_c_38 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_v290 : Ref sig .tc := ⟨.hbm, 435, rfl⟩
abbrev main_cst_39 : Ref sig .tc := ⟨.hbm, 436, rfl⟩
abbrev main_call23_v0 : Ref sig .tc := ⟨.hbm, 437, rfl⟩
abbrev main_call23_v1 : Ref sig .tc := ⟨.hbm, 438, rfl⟩
abbrev main_call23_v2 : Ref sig .tc := ⟨.hbm, 439, rfl⟩
abbrev main_v291 : Ref sig .tc := ⟨.hbm, 440, rfl⟩
abbrev main_v292 : Ref sig .tc := ⟨.hbm, 441, rfl⟩
abbrev main_c_40 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_v297 : Ref sig .tc := ⟨.hbm, 447, rfl⟩
abbrev main_v298 : Ref sig .tc := ⟨.hbm, 448, rfl⟩
abbrev main_v299 : Ref sig .tc := ⟨.hbm, 449, rfl⟩
abbrev main_cst_41 : Ref sig .tc := ⟨.hbm, 450, rfl⟩
abbrev main_call24_v0 : Ref sig .tc := ⟨.hbm, 451, rfl⟩
abbrev main_call24_v1 : Ref sig .tc := ⟨.hbm, 452, rfl⟩
abbrev main_call24_v2 : Ref sig .tc := ⟨.hbm, 453, rfl⟩
abbrev main_v300 : Ref sig .tc := ⟨.hbm, 454, rfl⟩
abbrev main_v301 : Ref sig .tc := ⟨.hbm, 455, rfl⟩
abbrev main_c_42 : Ref sig .tc := ⟨.hbm, 456, rfl⟩
abbrev main_v302 : Ref sig .tc := ⟨.hbm, 457, rfl⟩
abbrev main_v303 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_v307 : Ref sig .tc := ⟨.hbm, 462, rfl⟩
abbrev main_v308 : Ref sig .tc := ⟨.hbm, 463, rfl⟩
abbrev main_cst_43 : Ref sig .tc := ⟨.hbm, 464, rfl⟩
abbrev main_call25_v0 : Ref sig .tc := ⟨.hbm, 465, rfl⟩
abbrev main_call25_v1 : Ref sig .tc := ⟨.hbm, 466, rfl⟩
abbrev main_call25_v2 : Ref sig .tc := ⟨.hbm, 467, rfl⟩
abbrev main_v309 : Ref sig .tc := ⟨.hbm, 468, rfl⟩
abbrev main_v310 : Ref sig .tc := ⟨.hbm, 469, rfl⟩
abbrev main_c_44 : Ref sig .tc := ⟨.hbm, 470, rfl⟩
abbrev main_v311 : Ref sig .tc := ⟨.hbm, 471, rfl⟩
abbrev main_v312 : Ref sig .tc := ⟨.hbm, 472, rfl⟩
abbrev main_v313 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_cst_45 : Ref sig .tc := ⟨.hbm, 478, rfl⟩
abbrev main_call26_v0 : Ref sig .tc := ⟨.hbm, 479, rfl⟩
abbrev main_call26_v1 : Ref sig .tc := ⟨.hbm, 480, rfl⟩
abbrev main_call26_v2 : Ref sig .tc := ⟨.hbm, 481, rfl⟩
abbrev main_v318 : Ref sig .tc := ⟨.hbm, 482, rfl⟩
abbrev main_v319 : Ref sig .tc := ⟨.hbm, 483, rfl⟩
abbrev main_c_46 : Ref sig .tc := ⟨.hbm, 484, rfl⟩
abbrev main_v320 : Ref sig .tc := ⟨.hbm, 485, rfl⟩
abbrev main_v321 : Ref sig .tc := ⟨.hbm, 486, rfl⟩
abbrev main_v322 : Ref sig .tc := ⟨.hbm, 487, rfl⟩
abbrev main_c_47 : Ref sig .tc := ⟨.hbm, 488, rfl⟩
abbrev main_v323 : Ref sig .tc := ⟨.hbm, 489, rfl⟩
abbrev main_v324 : Ref sig .tc := ⟨.hbm, 490, rfl⟩
abbrev main_c_48 : Ref sig .tc := ⟨.hbm, 491, rfl⟩
abbrev main_v325 : Ref sig .tc := ⟨.hbm, 492, rfl⟩
abbrev main_v326 : Ref sig .tc := ⟨.hbm, 493, rfl⟩
abbrev main_c_49 : Ref sig .tc := ⟨.hbm, 494, rfl⟩
abbrev main_call27_v0 : Ref sig .tc := ⟨.hbm, 495, rfl⟩
abbrev main_call27_c : Ref sig .tc := ⟨.hbm, 496, rfl⟩
abbrev main_call27_v1 : Ref sig .tc := ⟨.hbm, 497, rfl⟩
abbrev main_call27_c_0 : Ref sig .tc := ⟨.hbm, 498, rfl⟩
abbrev main_call27_v2 : Ref sig .tc := ⟨.hbm, 499, rfl⟩
abbrev main_call27_v3 : Ref sig .tc := ⟨.hbm, 500, rfl⟩
abbrev main_call27_v4 : Ref sig .tc := ⟨.hbm, 501, rfl⟩
abbrev main_call27_c_1 : Ref sig .tc := ⟨.hbm, 502, rfl⟩
abbrev main_call27_v5 : Ref sig .tc := ⟨.hbm, 503, rfl⟩
abbrev main_call27_v6 : Ref sig .tc := ⟨.hbm, 504, rfl⟩
abbrev main_call27_c_2 : Ref sig .tc := ⟨.hbm, 505, rfl⟩
abbrev main_call27_v7 : Ref sig .tc := ⟨.hbm, 506, rfl⟩
abbrev main_call27_v8 : Ref sig .tc := ⟨.hbm, 507, rfl⟩
abbrev main_call27_c_3 : Ref sig .tc := ⟨.hbm, 508, rfl⟩
abbrev main_call27_v9 : Ref sig .tc := ⟨.hbm, 509, rfl⟩
abbrev main_call27_v10 : Ref sig .tc := ⟨.hbm, 510, rfl⟩
abbrev main_call27_v11 : Ref sig .tc := ⟨.hbm, 511, rfl⟩
abbrev main_call27_v12 : Ref sig .tc := ⟨.hbm, 512, rfl⟩
abbrev main_call27_v13 : Ref sig .tc := ⟨.hbm, 513, rfl⟩
abbrev main_call27_v14 : Ref sig .tc := ⟨.hbm, 514, rfl⟩
abbrev main_v327 : Ref sig .tc := ⟨.hbm, 515, rfl⟩
abbrev main_cst_50 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_c_51 : Ref sig .tc := ⟨.hbm, 520, rfl⟩
abbrev main_v331 : Ref sig .tc := ⟨.hbm, 521, rfl⟩
abbrev main_v332 : Ref sig .tc := ⟨.hbm, 522, rfl⟩
abbrev main_v333 : Ref sig .tc := ⟨.hbm, 523, rfl⟩
abbrev main_v334 : Ref sig .tc := ⟨.hbm, 524, rfl⟩
abbrev main_v335 : Ref sig .tc := ⟨.hbm, 525, rfl⟩
abbrev main_v336 : Ref sig .tc := ⟨.hbm, 526, rfl⟩
abbrev main_v337 : Ref sig .tc := ⟨.hbm, 527, rfl⟩
abbrev main_cst_52 : Ref sig .tc := ⟨.hbm, 528, rfl⟩
abbrev main_call28_v0 : Ref sig .tc := ⟨.hbm, 529, rfl⟩
abbrev main_call28_v1 : Ref sig .tc := ⟨.hbm, 530, rfl⟩
abbrev main_call28_v2 : Ref sig .tc := ⟨.hbm, 531, rfl⟩
abbrev main_v338 : Ref sig .tc := ⟨.hbm, 532, rfl⟩
abbrev main_v339 : Ref sig .tc := ⟨.hbm, 533, rfl⟩
abbrev main_c_53 : Ref sig .tc := ⟨.hbm, 534, rfl⟩
abbrev main_v340 : Ref sig .tc := ⟨.hbm, 535, rfl⟩
abbrev main_v341 : Ref sig .tc := ⟨.hbm, 536, rfl⟩
abbrev main_v342 : Ref sig .tc := ⟨.hbm, 537, rfl⟩
abbrev main_v343 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_cst_54 : Ref sig .tc := ⟨.hbm, 542, rfl⟩
abbrev main_call29_v0 : Ref sig .tc := ⟨.hbm, 543, rfl⟩
abbrev main_call29_v1 : Ref sig .tc := ⟨.hbm, 544, rfl⟩
abbrev main_call29_v2 : Ref sig .tc := ⟨.hbm, 545, rfl⟩
abbrev main_v347 : Ref sig .tc := ⟨.hbm, 546, rfl⟩
abbrev main_v348 : Ref sig .tc := ⟨.hbm, 547, rfl⟩
abbrev main_c_55 : Ref sig .tc := ⟨.hbm, 548, rfl⟩
abbrev main_v349 : Ref sig .tc := ⟨.hbm, 549, rfl⟩
abbrev main_v350 : Ref sig .tc := ⟨.hbm, 550, rfl⟩
abbrev main_v351 : Ref sig .tc := ⟨.hbm, 551, rfl⟩
abbrev main_v352 : Ref sig .tc := ⟨.hbm, 552, rfl⟩
abbrev main_v353 : Ref sig .tc := ⟨.hbm, 553, rfl⟩
abbrev main_v354 : Ref sig .tc := ⟨.hbm, 554, rfl⟩
abbrev main_v355 : Ref sig .tc := ⟨.hbm, 555, rfl⟩
abbrev main_cst_56 : Ref sig .tc := ⟨.hbm, 556, rfl⟩
abbrev main_call30_v0 : Ref sig .tc := ⟨.hbm, 557, rfl⟩
abbrev main_call30_v1 : Ref sig .tc := ⟨.hbm, 558, rfl⟩
abbrev main_call30_v2 : Ref sig .tc := ⟨.hbm, 559, rfl⟩
abbrev main_v356 : Ref sig .tc := ⟨.hbm, 560, rfl⟩
abbrev main_v357 : Ref sig .tc := ⟨.hbm, 561, rfl⟩
abbrev main_c_57 : Ref sig .tc := ⟨.hbm, 562, rfl⟩
abbrev main_v358 : Ref sig .tc := ⟨.hbm, 563, rfl⟩
abbrev main_v359 : Ref sig .tc := ⟨.hbm, 564, rfl⟩
abbrev main_v360 : Ref sig .tc := ⟨.hbm, 565, rfl⟩
abbrev main_v361 : Ref sig .tc := ⟨.hbm, 566, rfl⟩
abbrev main_v362 : Ref sig .tc := ⟨.hbm, 567, rfl⟩
abbrev main_v363 : Ref sig .tc := ⟨.hbm, 568, rfl⟩
abbrev main_v364 : Ref sig .tc := ⟨.hbm, 569, rfl⟩
abbrev main_cst_58 : Ref sig .tc := ⟨.hbm, 570, rfl⟩
abbrev main_call31_v0 : Ref sig .tc := ⟨.hbm, 571, rfl⟩
abbrev main_call31_v1 : Ref sig .tc := ⟨.hbm, 572, rfl⟩
abbrev main_call31_v2 : Ref sig .tc := ⟨.hbm, 573, rfl⟩
abbrev main_v365 : Ref sig .tc := ⟨.hbm, 574, rfl⟩
abbrev main_v366 : Ref sig .tc := ⟨.hbm, 575, rfl⟩
abbrev main_c_59 : Ref sig .tc := ⟨.hbm, 576, rfl⟩
abbrev main_v367 : Ref sig .tc := ⟨.hbm, 577, rfl⟩
abbrev main_v368 : Ref sig .tc := ⟨.hbm, 578, rfl⟩
abbrev main_v369 : Ref sig .tc := ⟨.hbm, 579, rfl⟩
abbrev main_v370 : Ref sig .tc := ⟨.hbm, 580, rfl⟩
abbrev main_v371 : Ref sig .tc := ⟨.hbm, 581, rfl⟩
abbrev main_v372 : Ref sig .tc := ⟨.hbm, 582, rfl⟩
abbrev main_v373 : Ref sig .tc := ⟨.hbm, 583, rfl⟩
abbrev main_cst_60 : Ref sig .tc := ⟨.hbm, 584, rfl⟩
abbrev main_call32_v0 : Ref sig .tc := ⟨.hbm, 585, rfl⟩
abbrev main_call32_v1 : Ref sig .tc := ⟨.hbm, 586, rfl⟩
abbrev main_call32_v2 : Ref sig .tc := ⟨.hbm, 587, rfl⟩
abbrev main_v374 : Ref sig .tc := ⟨.hbm, 588, rfl⟩
abbrev main_v375 : Ref sig .tc := ⟨.hbm, 589, rfl⟩
abbrev main_c_61 : Ref sig .tc := ⟨.hbm, 590, rfl⟩
abbrev main_v376 : Ref sig .tc := ⟨.hbm, 591, rfl⟩
abbrev main_v377 : Ref sig .tc := ⟨.hbm, 592, rfl⟩
abbrev main_v378 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_v382 : Ref sig .tc := ⟨.hbm, 597, rfl⟩
abbrev main_cst_62 : Ref sig .tc := ⟨.hbm, 598, rfl⟩
abbrev main_call33_v0 : Ref sig .tc := ⟨.hbm, 599, rfl⟩
abbrev main_call33_v1 : Ref sig .tc := ⟨.hbm, 600, rfl⟩
abbrev main_call33_v2 : Ref sig .tc := ⟨.hbm, 601, rfl⟩
abbrev main_v383 : Ref sig .tc := ⟨.hbm, 602, rfl⟩
abbrev main_v384 : Ref sig .tc := ⟨.hbm, 603, rfl⟩
abbrev main_c_63 : Ref sig .tc := ⟨.hbm, 604, rfl⟩
abbrev main_v385 : Ref sig .tc := ⟨.hbm, 605, rfl⟩
abbrev main_v386 : Ref sig .tc := ⟨.hbm, 606, rfl⟩
abbrev main_v387 : Ref sig .tc := ⟨.hbm, 607, rfl⟩
abbrev main_v388 : Ref sig .tc := ⟨.hbm, 608, rfl⟩
abbrev main_v389 : Ref sig .tc := ⟨.hbm, 609, rfl⟩
abbrev main_v390 : Ref sig .tc := ⟨.hbm, 610, rfl⟩
abbrev main_v391 : Ref sig .tc := ⟨.hbm, 611, rfl⟩
abbrev main_cst_64 : Ref sig .tc := ⟨.hbm, 612, rfl⟩
abbrev main_call34_v0 : Ref sig .tc := ⟨.hbm, 613, rfl⟩
abbrev main_call34_v1 : Ref sig .tc := ⟨.hbm, 614, rfl⟩
abbrev main_call34_v2 : Ref sig .tc := ⟨.hbm, 615, rfl⟩
abbrev main_v392 : Ref sig .tc := ⟨.hbm, 616, rfl⟩
abbrev main_v393 : Ref sig .tc := ⟨.hbm, 617, rfl⟩
abbrev main_c_65 : Ref sig .tc := ⟨.hbm, 618, rfl⟩
abbrev main_v394 : Ref sig .tc := ⟨.hbm, 619, rfl⟩
abbrev main_v395 : Ref sig .tc := ⟨.hbm, 620, rfl⟩
abbrev main_v396 : Ref sig .tc := ⟨.hbm, 621, rfl⟩
abbrev main_v397 : Ref sig .tc := ⟨.hbm, 622, rfl⟩
abbrev main_v398 : Ref sig .tc := ⟨.hbm, 623, rfl⟩
abbrev main_v399 : Ref sig .tc := ⟨.hbm, 624, rfl⟩
abbrev main_v400 : Ref sig .tc := ⟨.hbm, 625, rfl⟩
abbrev main_cst_66 : Ref sig .tc := ⟨.hbm, 626, rfl⟩
abbrev main_call35_v0 : Ref sig .tc := ⟨.hbm, 627, rfl⟩
abbrev main_call35_v1 : Ref sig .tc := ⟨.hbm, 628, rfl⟩
abbrev main_call35_v2 : Ref sig .tc := ⟨.hbm, 629, rfl⟩
abbrev main_v401 : Ref sig .tc := ⟨.hbm, 630, rfl⟩
abbrev main_v402 : Ref sig .tc := ⟨.hbm, 631, rfl⟩
abbrev main_c_67 : Ref sig .tc := ⟨.hbm, 632, rfl⟩
abbrev main_v403 : Ref sig .tc := ⟨.hbm, 633, rfl⟩
abbrev main_v404 : Ref sig .tc := ⟨.hbm, 634, rfl⟩
abbrev main_v405 : Ref sig .tc := ⟨.hbm, 635, rfl⟩
abbrev main_c_68 : Ref sig .tc := ⟨.hbm, 636, rfl⟩
abbrev main_v406 : Ref sig .tc := ⟨.hbm, 637, rfl⟩
abbrev main_v407 : Ref sig .tc := ⟨.hbm, 638, rfl⟩
abbrev main_c_69 : Ref sig .tc := ⟨.hbm, 639, rfl⟩
abbrev main_v408 : Ref sig .tc := ⟨.hbm, 640, rfl⟩
abbrev main_v409 : Ref sig .tc := ⟨.hbm, 641, rfl⟩
abbrev main_c_70 : Ref sig .tc := ⟨.hbm, 642, rfl⟩
abbrev main_call36_v0 : Ref sig .tc := ⟨.hbm, 643, rfl⟩
abbrev main_call36_c : Ref sig .tc := ⟨.hbm, 644, rfl⟩
abbrev main_call36_v1 : Ref sig .tc := ⟨.hbm, 645, rfl⟩
abbrev main_call36_c_0 : Ref sig .tc := ⟨.hbm, 646, rfl⟩
abbrev main_call36_v2 : Ref sig .tc := ⟨.hbm, 647, rfl⟩
abbrev main_call36_v3 : Ref sig .tc := ⟨.hbm, 648, rfl⟩
abbrev main_call36_v4 : Ref sig .tc := ⟨.hbm, 649, rfl⟩
abbrev main_call36_c_1 : Ref sig .tc := ⟨.hbm, 650, rfl⟩
abbrev main_call36_v5 : Ref sig .tc := ⟨.hbm, 651, rfl⟩
abbrev main_call36_v6 : Ref sig .tc := ⟨.hbm, 652, rfl⟩
abbrev main_call36_c_2 : Ref sig .tc := ⟨.hbm, 653, rfl⟩
abbrev main_call36_v7 : Ref sig .tc := ⟨.hbm, 654, rfl⟩
abbrev main_call36_v8 : Ref sig .tc := ⟨.hbm, 655, rfl⟩
abbrev main_call36_c_3 : Ref sig .tc := ⟨.hbm, 656, rfl⟩
abbrev main_call36_v9 : Ref sig .tc := ⟨.hbm, 657, rfl⟩
abbrev main_call36_v10 : Ref sig .tc := ⟨.hbm, 658, rfl⟩
abbrev main_call36_v11 : Ref sig .tc := ⟨.hbm, 659, rfl⟩
abbrev main_call36_v12 : Ref sig .tc := ⟨.hbm, 660, rfl⟩
abbrev main_call36_v13 : Ref sig .tc := ⟨.hbm, 661, rfl⟩
abbrev main_call36_v14 : Ref sig .tc := ⟨.hbm, 662, rfl⟩
abbrev main_v410 : Ref sig .tc := ⟨.hbm, 663, rfl⟩
abbrev main_cst_71 : Ref sig .tc := ⟨.hbm, 664, rfl⟩
abbrev main_v411 : Ref sig .tc := ⟨.hbm, 665, rfl⟩
abbrev main_v412 : Ref sig .tc := ⟨.hbm, 666, rfl⟩
abbrev main_v413 : Ref sig .tc := ⟨.hbm, 667, rfl⟩
abbrev main_c_72 : Ref sig .tc := ⟨.hbm, 668, rfl⟩
abbrev main_v414 : Ref sig .tc := ⟨.hbm, 669, rfl⟩
abbrev main_v415 : Ref sig .tc := ⟨.hbm, 670, rfl⟩
abbrev main_v416 : Ref sig .tc := ⟨.hbm, 671, rfl⟩
abbrev main_v417 : Ref sig .tc := ⟨.hbm, 672, rfl⟩
abbrev main_v418 : Ref sig .tc := ⟨.hbm, 673, rfl⟩
abbrev main_v419 : Ref sig .tc := ⟨.hbm, 674, rfl⟩
abbrev main_v420 : Ref sig .tc := ⟨.hbm, 675, rfl⟩
abbrev main_cst_73 : Ref sig .tc := ⟨.hbm, 676, rfl⟩
abbrev main_call37_v0 : Ref sig .tc := ⟨.hbm, 677, rfl⟩
abbrev main_call37_v1 : Ref sig .tc := ⟨.hbm, 678, rfl⟩
abbrev main_call37_v2 : Ref sig .tc := ⟨.hbm, 679, rfl⟩
abbrev main_v421 : Ref sig .tc := ⟨.hbm, 680, rfl⟩
abbrev main_v422 : Ref sig .tc := ⟨.hbm, 681, rfl⟩
abbrev main_c_74 : Ref sig .tc := ⟨.hbm, 682, rfl⟩
abbrev main_v423 : Ref sig .tc := ⟨.hbm, 683, rfl⟩
abbrev main_v424 : Ref sig .tc := ⟨.hbm, 684, rfl⟩
abbrev main_v425 : Ref sig .tc := ⟨.hbm, 685, rfl⟩
abbrev main_v426 : Ref sig .tc := ⟨.hbm, 686, rfl⟩
abbrev main_v427 : Ref sig .tc := ⟨.hbm, 687, rfl⟩
abbrev main_v428 : Ref sig .tc := ⟨.hbm, 688, rfl⟩
abbrev main_v429 : Ref sig .tc := ⟨.hbm, 689, rfl⟩
abbrev main_cst_75 : Ref sig .tc := ⟨.hbm, 690, rfl⟩
abbrev main_call38_v0 : Ref sig .tc := ⟨.hbm, 691, rfl⟩
abbrev main_call38_v1 : Ref sig .tc := ⟨.hbm, 692, rfl⟩
abbrev main_call38_v2 : Ref sig .tc := ⟨.hbm, 693, rfl⟩
abbrev main_v430 : Ref sig .tc := ⟨.hbm, 694, rfl⟩
abbrev main_v431 : Ref sig .tc := ⟨.hbm, 695, rfl⟩
abbrev main_c_76 : Ref sig .tc := ⟨.hbm, 696, rfl⟩
abbrev main_v432 : Ref sig .tc := ⟨.hbm, 697, rfl⟩
abbrev main_v433 : Ref sig .tc := ⟨.hbm, 698, rfl⟩
abbrev main_v434 : Ref sig .tc := ⟨.hbm, 699, rfl⟩
abbrev main_v435 : Ref sig .tc := ⟨.hbm, 700, rfl⟩
abbrev main_v436 : Ref sig .tc := ⟨.hbm, 701, rfl⟩
abbrev main_v437 : Ref sig .tc := ⟨.hbm, 702, rfl⟩
abbrev main_v438 : Ref sig .tc := ⟨.hbm, 703, rfl⟩
abbrev main_cst_77 : Ref sig .tc := ⟨.hbm, 704, rfl⟩
abbrev main_call39_v0 : Ref sig .tc := ⟨.hbm, 705, rfl⟩
abbrev main_call39_v1 : Ref sig .tc := ⟨.hbm, 706, rfl⟩
abbrev main_call39_v2 : Ref sig .tc := ⟨.hbm, 707, rfl⟩
abbrev main_v439 : Ref sig .tc := ⟨.hbm, 708, rfl⟩
abbrev main_v440 : Ref sig .tc := ⟨.hbm, 709, rfl⟩
abbrev main_c_78 : Ref sig .tc := ⟨.hbm, 710, rfl⟩
abbrev main_v441 : Ref sig .tc := ⟨.hbm, 711, rfl⟩
abbrev main_v442 : Ref sig .tc := ⟨.hbm, 712, rfl⟩
abbrev main_v443 : Ref sig .tc := ⟨.hbm, 713, rfl⟩
abbrev main_v444 : Ref sig .tc := ⟨.hbm, 714, rfl⟩
abbrev main_v445 : Ref sig .tc := ⟨.hbm, 715, rfl⟩
abbrev main_v446 : Ref sig .tc := ⟨.hbm, 716, rfl⟩
abbrev main_v447 : Ref sig .tc := ⟨.hbm, 717, rfl⟩
abbrev main_cst_79 : Ref sig .tc := ⟨.hbm, 718, rfl⟩
abbrev main_call40_v0 : Ref sig .tc := ⟨.hbm, 719, rfl⟩
abbrev main_call40_v1 : Ref sig .tc := ⟨.hbm, 720, rfl⟩
abbrev main_call40_v2 : Ref sig .tc := ⟨.hbm, 721, rfl⟩
abbrev main_v448 : Ref sig .tc := ⟨.hbm, 722, rfl⟩
abbrev main_v449 : Ref sig .tc := ⟨.hbm, 723, rfl⟩
abbrev main_c_80 : Ref sig .tc := ⟨.hbm, 724, rfl⟩
abbrev main_v450 : Ref sig .tc := ⟨.hbm, 725, rfl⟩
abbrev main_v451 : Ref sig .tc := ⟨.hbm, 726, rfl⟩
abbrev main_v452 : Ref sig .tc := ⟨.hbm, 727, rfl⟩
abbrev main_v453 : Ref sig .tc := ⟨.hbm, 728, rfl⟩
abbrev main_v454 : Ref sig .tc := ⟨.hbm, 729, rfl⟩
abbrev main_v455 : Ref sig .tc := ⟨.hbm, 730, rfl⟩
abbrev main_v456 : Ref sig .tc := ⟨.hbm, 731, rfl⟩
abbrev main_cst_81 : Ref sig .tc := ⟨.hbm, 732, rfl⟩
abbrev main_call41_v0 : Ref sig .tc := ⟨.hbm, 733, rfl⟩
abbrev main_call41_v1 : Ref sig .tc := ⟨.hbm, 734, rfl⟩
abbrev main_call41_v2 : Ref sig .tc := ⟨.hbm, 735, rfl⟩
abbrev main_v457 : Ref sig .tc := ⟨.hbm, 736, rfl⟩
abbrev main_v458 : Ref sig .tc := ⟨.hbm, 737, rfl⟩
abbrev main_c_82 : Ref sig .tc := ⟨.hbm, 738, rfl⟩
abbrev main_v459 : Ref sig .tc := ⟨.hbm, 739, rfl⟩
abbrev main_v460 : Ref sig .tc := ⟨.hbm, 740, rfl⟩
abbrev main_v461 : Ref sig .tc := ⟨.hbm, 741, rfl⟩
abbrev main_v462 : Ref sig .tc := ⟨.hbm, 742, rfl⟩
abbrev main_v463 : Ref sig .tc := ⟨.hbm, 743, rfl⟩
abbrev main_v464 : Ref sig .tc := ⟨.hbm, 744, rfl⟩
abbrev main_v465 : Ref sig .tc := ⟨.hbm, 745, rfl⟩
abbrev main_cst_83 : Ref sig .tc := ⟨.hbm, 746, rfl⟩
abbrev main_call42_v0 : Ref sig .tc := ⟨.hbm, 747, rfl⟩
abbrev main_call42_v1 : Ref sig .tc := ⟨.hbm, 748, rfl⟩
abbrev main_call42_v2 : Ref sig .tc := ⟨.hbm, 749, rfl⟩
abbrev main_v466 : Ref sig .tc := ⟨.hbm, 750, rfl⟩
abbrev main_v467 : Ref sig .tc := ⟨.hbm, 751, rfl⟩
abbrev main_c_84 : Ref sig .tc := ⟨.hbm, 752, rfl⟩
abbrev main_v468 : Ref sig .tc := ⟨.hbm, 753, rfl⟩
abbrev main_v469 : Ref sig .tc := ⟨.hbm, 754, rfl⟩
abbrev main_v470 : Ref sig .tc := ⟨.hbm, 755, rfl⟩
abbrev main_v471 : Ref sig .tc := ⟨.hbm, 756, rfl⟩
abbrev main_v472 : Ref sig .tc := ⟨.hbm, 757, rfl⟩
abbrev main_v473 : Ref sig .tc := ⟨.hbm, 758, rfl⟩
abbrev main_v474 : Ref sig .tc := ⟨.hbm, 759, rfl⟩
abbrev main_cst_85 : Ref sig .tc := ⟨.hbm, 760, rfl⟩
abbrev main_call43_v0 : Ref sig .tc := ⟨.hbm, 761, rfl⟩
abbrev main_call43_v1 : Ref sig .tc := ⟨.hbm, 762, rfl⟩
abbrev main_call43_v2 : Ref sig .tc := ⟨.hbm, 763, rfl⟩
abbrev main_v475 : Ref sig .tc := ⟨.hbm, 764, rfl⟩
abbrev main_v476 : Ref sig .tc := ⟨.hbm, 765, rfl⟩
abbrev main_c_86 : Ref sig .tc := ⟨.hbm, 766, rfl⟩
abbrev main_v477 : Ref sig .tc := ⟨.hbm, 767, rfl⟩
abbrev main_v478 : Ref sig .tc := ⟨.hbm, 768, rfl⟩
abbrev main_v479 : Ref sig .tc := ⟨.hbm, 769, rfl⟩
abbrev main_v480 : Ref sig .tc := ⟨.hbm, 770, rfl⟩
abbrev main_v481 : Ref sig .tc := ⟨.hbm, 771, rfl⟩
abbrev main_v482 : Ref sig .tc := ⟨.hbm, 772, rfl⟩
abbrev main_v483 : Ref sig .tc := ⟨.hbm, 773, rfl⟩
abbrev main_cst_87 : Ref sig .tc := ⟨.hbm, 774, rfl⟩
abbrev main_call44_v0 : Ref sig .tc := ⟨.hbm, 775, rfl⟩
abbrev main_call44_v1 : Ref sig .tc := ⟨.hbm, 776, rfl⟩
abbrev main_call44_v2 : Ref sig .tc := ⟨.hbm, 777, rfl⟩
abbrev main_v484 : Ref sig .tc := ⟨.hbm, 778, rfl⟩
abbrev main_v485 : Ref sig .tc := ⟨.hbm, 779, rfl⟩
abbrev main_c_88 : Ref sig .tc := ⟨.hbm, 780, rfl⟩
abbrev main_v486 : Ref sig .tc := ⟨.hbm, 781, rfl⟩
abbrev main_v487 : Ref sig .tc := ⟨.hbm, 782, rfl⟩
abbrev main_v488 : Ref sig .tc := ⟨.hbm, 783, rfl⟩
abbrev main_c_89 : Ref sig .tc := ⟨.hbm, 784, rfl⟩
abbrev main_v489 : Ref sig .tc := ⟨.hbm, 785, rfl⟩
abbrev main_v490 : Ref sig .tc := ⟨.hbm, 786, rfl⟩
abbrev main_c_90 : Ref sig .tc := ⟨.hbm, 787, rfl⟩
abbrev main_v491 : Ref sig .tc := ⟨.hbm, 788, rfl⟩
abbrev main_v492 : Ref sig .tc := ⟨.hbm, 789, rfl⟩
abbrev main_c_91 : Ref sig .tc := ⟨.hbm, 790, rfl⟩
abbrev main_call45_v0 : Ref sig .tc := ⟨.hbm, 791, rfl⟩
abbrev main_call45_c : Ref sig .tc := ⟨.hbm, 792, rfl⟩
abbrev main_call45_v1 : Ref sig .tc := ⟨.hbm, 793, rfl⟩
abbrev main_call45_c_0 : Ref sig .tc := ⟨.hbm, 794, rfl⟩
abbrev main_call45_v2 : Ref sig .tc := ⟨.hbm, 795, rfl⟩
abbrev main_call45_v3 : Ref sig .tc := ⟨.hbm, 796, rfl⟩
abbrev main_call45_v4 : Ref sig .tc := ⟨.hbm, 797, rfl⟩
abbrev main_call45_c_1 : Ref sig .tc := ⟨.hbm, 798, rfl⟩
abbrev main_call45_v5 : Ref sig .tc := ⟨.hbm, 799, rfl⟩
abbrev main_call45_v6 : Ref sig .tc := ⟨.hbm, 800, rfl⟩
abbrev main_call45_c_2 : Ref sig .tc := ⟨.hbm, 801, rfl⟩
abbrev main_call45_v7 : Ref sig .tc := ⟨.hbm, 802, rfl⟩
abbrev main_call45_v8 : Ref sig .tc := ⟨.hbm, 803, rfl⟩
abbrev main_call45_c_3 : Ref sig .tc := ⟨.hbm, 804, rfl⟩
abbrev main_call45_v9 : Ref sig .tc := ⟨.hbm, 805, rfl⟩
abbrev main_call45_v10 : Ref sig .tc := ⟨.hbm, 806, rfl⟩
abbrev main_call45_v11 : Ref sig .tc := ⟨.hbm, 807, rfl⟩
abbrev main_call45_v12 : Ref sig .tc := ⟨.hbm, 808, rfl⟩
abbrev main_call45_v13 : Ref sig .tc := ⟨.hbm, 809, rfl⟩
abbrev main_call45_v14 : Ref sig .tc := ⟨.hbm, 810, rfl⟩
abbrev main_v493 : Ref sig .tc := ⟨.hbm, 811, rfl⟩
abbrev main_cst_92 : Ref sig .tc := ⟨.hbm, 812, rfl⟩
abbrev main_v494 : Ref sig .tc := ⟨.hbm, 813, rfl⟩
abbrev main_v495 : Ref sig .tc := ⟨.hbm, 814, rfl⟩
abbrev main_v496 : Ref sig .tc := ⟨.hbm, 815, rfl⟩
abbrev main_c_93 : Ref sig .tc := ⟨.hbm, 816, rfl⟩
abbrev main_v497 : Ref sig .tc := ⟨.hbm, 817, rfl⟩
abbrev main_v498 : Ref sig .tc := ⟨.hbm, 818, rfl⟩
abbrev main_v499 : Ref sig .tc := ⟨.hbm, 819, rfl⟩
abbrev main_v500 : Ref sig .tc := ⟨.hbm, 820, rfl⟩
abbrev main_v501 : Ref sig .tc := ⟨.hbm, 821, rfl⟩
abbrev main_v502 : Ref sig .tc := ⟨.hbm, 822, rfl⟩
abbrev main_v503 : Ref sig .tc := ⟨.hbm, 823, rfl⟩
abbrev main_cst_94 : Ref sig .tc := ⟨.hbm, 824, rfl⟩
abbrev main_call46_v0 : Ref sig .tc := ⟨.hbm, 825, rfl⟩
abbrev main_call46_v1 : Ref sig .tc := ⟨.hbm, 826, rfl⟩
abbrev main_call46_v2 : Ref sig .tc := ⟨.hbm, 827, rfl⟩
abbrev main_v504 : Ref sig .tc := ⟨.hbm, 828, rfl⟩
abbrev main_v505 : Ref sig .tc := ⟨.hbm, 829, rfl⟩
abbrev main_c_95 : Ref sig .tc := ⟨.hbm, 830, rfl⟩
abbrev main_v506 : Ref sig .tc := ⟨.hbm, 831, rfl⟩
abbrev main_v507 : Ref sig .tc := ⟨.hbm, 832, rfl⟩
abbrev main_v508 : Ref sig .tc := ⟨.hbm, 833, rfl⟩
abbrev main_v509 : Ref sig .tc := ⟨.hbm, 834, rfl⟩
abbrev main_v510 : Ref sig .tc := ⟨.hbm, 835, rfl⟩
abbrev main_v511 : Ref sig .tc := ⟨.hbm, 836, rfl⟩
abbrev main_v512 : Ref sig .tc := ⟨.hbm, 837, rfl⟩
abbrev main_cst_96 : Ref sig .tc := ⟨.hbm, 838, rfl⟩
abbrev main_call47_v0 : Ref sig .tc := ⟨.hbm, 839, rfl⟩
abbrev main_call47_v1 : Ref sig .tc := ⟨.hbm, 840, rfl⟩
abbrev main_call47_v2 : Ref sig .tc := ⟨.hbm, 841, rfl⟩
abbrev main_v513 : Ref sig .tc := ⟨.hbm, 842, rfl⟩
abbrev main_v514 : Ref sig .tc := ⟨.hbm, 843, rfl⟩
abbrev main_c_97 : Ref sig .tc := ⟨.hbm, 844, rfl⟩
abbrev main_v515 : Ref sig .tc := ⟨.hbm, 845, rfl⟩
abbrev main_v516 : Ref sig .tc := ⟨.hbm, 846, rfl⟩
abbrev main_v517 : Ref sig .tc := ⟨.hbm, 847, rfl⟩
abbrev main_v518 : Ref sig .tc := ⟨.hbm, 848, rfl⟩
abbrev main_v519 : Ref sig .tc := ⟨.hbm, 849, rfl⟩
abbrev main_v520 : Ref sig .tc := ⟨.hbm, 850, rfl⟩
abbrev main_v521 : Ref sig .tc := ⟨.hbm, 851, rfl⟩
abbrev main_cst_98 : Ref sig .tc := ⟨.hbm, 852, rfl⟩
abbrev main_call48_v0 : Ref sig .tc := ⟨.hbm, 853, rfl⟩
abbrev main_call48_v1 : Ref sig .tc := ⟨.hbm, 854, rfl⟩
abbrev main_call48_v2 : Ref sig .tc := ⟨.hbm, 855, rfl⟩
abbrev main_v522 : Ref sig .tc := ⟨.hbm, 856, rfl⟩
abbrev main_v523 : Ref sig .tc := ⟨.hbm, 857, rfl⟩
abbrev main_c_99 : Ref sig .tc := ⟨.hbm, 858, rfl⟩
abbrev main_v524 : Ref sig .tc := ⟨.hbm, 859, rfl⟩
abbrev main_v525 : Ref sig .tc := ⟨.hbm, 860, rfl⟩
abbrev main_v526 : Ref sig .tc := ⟨.hbm, 861, rfl⟩
abbrev main_v527 : Ref sig .tc := ⟨.hbm, 862, rfl⟩
abbrev main_v528 : Ref sig .tc := ⟨.hbm, 863, rfl⟩
abbrev main_v529 : Ref sig .tc := ⟨.hbm, 864, rfl⟩
abbrev main_v530 : Ref sig .tc := ⟨.hbm, 865, rfl⟩
abbrev main_cst_100 : Ref sig .tc := ⟨.hbm, 866, rfl⟩
abbrev main_call49_v0 : Ref sig .tc := ⟨.hbm, 867, rfl⟩
abbrev main_call49_v1 : Ref sig .tc := ⟨.hbm, 868, rfl⟩
abbrev main_call49_v2 : Ref sig .tc := ⟨.hbm, 869, rfl⟩
abbrev main_v531 : Ref sig .tc := ⟨.hbm, 870, rfl⟩
abbrev main_v532 : Ref sig .tc := ⟨.hbm, 871, rfl⟩
abbrev main_c_101 : Ref sig .tc := ⟨.hbm, 872, rfl⟩
abbrev main_v533 : Ref sig .tc := ⟨.hbm, 873, rfl⟩
abbrev main_v534 : Ref sig .tc := ⟨.hbm, 874, rfl⟩
abbrev main_v535 : Ref sig .tc := ⟨.hbm, 875, rfl⟩
abbrev main_v536 : Ref sig .tc := ⟨.hbm, 876, rfl⟩
abbrev main_v537 : Ref sig .tc := ⟨.hbm, 877, rfl⟩
abbrev main_v538 : Ref sig .tc := ⟨.hbm, 878, rfl⟩
abbrev main_v539 : Ref sig .tc := ⟨.hbm, 879, rfl⟩
abbrev main_cst_102 : Ref sig .tc := ⟨.hbm, 880, rfl⟩
abbrev main_call50_v0 : Ref sig .tc := ⟨.hbm, 881, rfl⟩
abbrev main_call50_v1 : Ref sig .tc := ⟨.hbm, 882, rfl⟩
abbrev main_call50_v2 : Ref sig .tc := ⟨.hbm, 883, rfl⟩
abbrev main_v540 : Ref sig .tc := ⟨.hbm, 884, rfl⟩
abbrev main_v541 : Ref sig .tc := ⟨.hbm, 885, rfl⟩
abbrev main_c_103 : Ref sig .tc := ⟨.hbm, 886, rfl⟩
abbrev main_v542 : Ref sig .tc := ⟨.hbm, 887, rfl⟩
abbrev main_v543 : Ref sig .tc := ⟨.hbm, 888, rfl⟩
abbrev main_v544 : Ref sig .tc := ⟨.hbm, 889, rfl⟩
abbrev main_v545 : Ref sig .tc := ⟨.hbm, 890, rfl⟩
abbrev main_v546 : Ref sig .tc := ⟨.hbm, 891, rfl⟩
abbrev main_v547 : Ref sig .tc := ⟨.hbm, 892, rfl⟩
abbrev main_v548 : Ref sig .tc := ⟨.hbm, 893, rfl⟩
abbrev main_cst_104 : Ref sig .tc := ⟨.hbm, 894, rfl⟩
abbrev main_call51_v0 : Ref sig .tc := ⟨.hbm, 895, rfl⟩
abbrev main_call51_v1 : Ref sig .tc := ⟨.hbm, 896, rfl⟩
abbrev main_call51_v2 : Ref sig .tc := ⟨.hbm, 897, rfl⟩
abbrev main_v549 : Ref sig .tc := ⟨.hbm, 898, rfl⟩
abbrev main_v550 : Ref sig .tc := ⟨.hbm, 899, rfl⟩
abbrev main_c_105 : Ref sig .tc := ⟨.hbm, 900, rfl⟩
abbrev main_v551 : Ref sig .tc := ⟨.hbm, 901, rfl⟩
abbrev main_v552 : Ref sig .tc := ⟨.hbm, 902, rfl⟩
abbrev main_v553 : Ref sig .tc := ⟨.hbm, 903, rfl⟩
abbrev main_v554 : Ref sig .tc := ⟨.hbm, 904, rfl⟩
abbrev main_v555 : Ref sig .tc := ⟨.hbm, 905, rfl⟩
abbrev main_v556 : Ref sig .tc := ⟨.hbm, 906, rfl⟩
abbrev main_v557 : Ref sig .tc := ⟨.hbm, 907, rfl⟩
abbrev main_cst_106 : Ref sig .tc := ⟨.hbm, 908, rfl⟩
abbrev main_call52_v0 : Ref sig .tc := ⟨.hbm, 909, rfl⟩
abbrev main_call52_v1 : Ref sig .tc := ⟨.hbm, 910, rfl⟩
abbrev main_call52_v2 : Ref sig .tc := ⟨.hbm, 911, rfl⟩
abbrev main_v558 : Ref sig .tc := ⟨.hbm, 912, rfl⟩
abbrev main_v559 : Ref sig .tc := ⟨.hbm, 913, rfl⟩
abbrev main_c_107 : Ref sig .tc := ⟨.hbm, 914, rfl⟩
abbrev main_v560 : Ref sig .tc := ⟨.hbm, 915, rfl⟩
abbrev main_v561 : Ref sig .tc := ⟨.hbm, 916, rfl⟩
abbrev main_v562 : Ref sig .tc := ⟨.hbm, 917, rfl⟩
abbrev main_v563 : Ref sig .tc := ⟨.hbm, 918, rfl⟩
abbrev main_v564 : Ref sig .tc := ⟨.hbm, 919, rfl⟩
abbrev main_v565 : Ref sig .tc := ⟨.hbm, 920, rfl⟩
abbrev main_v566 : Ref sig .tc := ⟨.hbm, 921, rfl⟩
abbrev main_cst_108 : Ref sig .tc := ⟨.hbm, 922, rfl⟩
abbrev main_call53_v0 : Ref sig .tc := ⟨.hbm, 923, rfl⟩
abbrev main_call53_v1 : Ref sig .tc := ⟨.hbm, 924, rfl⟩
abbrev main_call53_v2 : Ref sig .tc := ⟨.hbm, 925, rfl⟩
abbrev main_v567 : Ref sig .tc := ⟨.hbm, 926, rfl⟩
abbrev main_v568 : Ref sig .tc := ⟨.hbm, 927, rfl⟩
abbrev main_c_109 : Ref sig .tc := ⟨.hbm, 928, rfl⟩
abbrev main_v569 : Ref sig .tc := ⟨.hbm, 929, rfl⟩
abbrev main_v570 : Ref sig .tc := ⟨.hbm, 930, rfl⟩
abbrev main_v571 : Ref sig .tc := ⟨.hbm, 931, rfl⟩
abbrev main_c_110 : Ref sig .tc := ⟨.hbm, 932, rfl⟩
abbrev main_v572 : Ref sig .tc := ⟨.hbm, 933, rfl⟩
abbrev main_v573 : Ref sig .tc := ⟨.hbm, 934, rfl⟩
abbrev main_c_111 : Ref sig .tc := ⟨.hbm, 935, rfl⟩
abbrev main_v574 : Ref sig .tc := ⟨.hbm, 936, rfl⟩
abbrev main_v575 : Ref sig .tc := ⟨.hbm, 937, rfl⟩
abbrev main_c_112 : Ref sig .tc := ⟨.hbm, 938, rfl⟩
abbrev main_call54_v0 : Ref sig .tc := ⟨.hbm, 939, rfl⟩
abbrev main_call54_c : Ref sig .tc := ⟨.hbm, 940, rfl⟩
abbrev main_call54_v1 : Ref sig .tc := ⟨.hbm, 941, rfl⟩
abbrev main_call54_c_0 : Ref sig .tc := ⟨.hbm, 942, rfl⟩
abbrev main_call54_v2 : Ref sig .tc := ⟨.hbm, 943, rfl⟩
abbrev main_call54_v3 : Ref sig .tc := ⟨.hbm, 944, rfl⟩
abbrev main_call54_v4 : Ref sig .tc := ⟨.hbm, 945, rfl⟩
abbrev main_call54_c_1 : Ref sig .tc := ⟨.hbm, 946, rfl⟩
abbrev main_call54_v5 : Ref sig .tc := ⟨.hbm, 947, rfl⟩
abbrev main_call54_v6 : Ref sig .tc := ⟨.hbm, 948, rfl⟩
abbrev main_call54_c_2 : Ref sig .tc := ⟨.hbm, 949, rfl⟩
abbrev main_call54_v7 : Ref sig .tc := ⟨.hbm, 950, rfl⟩
abbrev main_call54_v8 : Ref sig .tc := ⟨.hbm, 951, rfl⟩
abbrev main_call54_c_3 : Ref sig .tc := ⟨.hbm, 952, rfl⟩
abbrev main_call54_v9 : Ref sig .tc := ⟨.hbm, 953, rfl⟩
abbrev main_call54_v10 : Ref sig .tc := ⟨.hbm, 954, rfl⟩
abbrev main_call54_v11 : Ref sig .tc := ⟨.hbm, 955, rfl⟩
abbrev main_call54_v12 : Ref sig .tc := ⟨.hbm, 956, rfl⟩
abbrev main_call54_v13 : Ref sig .tc := ⟨.hbm, 957, rfl⟩
abbrev main_call54_v14 : Ref sig .tc := ⟨.hbm, 958, rfl⟩
abbrev main_v576 : Ref sig .tc := ⟨.hbm, 959, rfl⟩
abbrev main_cst_113 : Ref sig .tc := ⟨.hbm, 960, rfl⟩
abbrev main_v577 : Ref sig .tc := ⟨.hbm, 961, rfl⟩
abbrev main_v578 : Ref sig .tc := ⟨.hbm, 962, rfl⟩
abbrev main_v579 : Ref sig .tc := ⟨.hbm, 963, rfl⟩
abbrev main_c_114 : Ref sig .tc := ⟨.hbm, 964, rfl⟩
abbrev main_v580 : Ref sig .tc := ⟨.hbm, 965, rfl⟩
abbrev main_v581 : Ref sig .tc := ⟨.hbm, 966, rfl⟩
abbrev main_v582 : Ref sig .tc := ⟨.hbm, 967, rfl⟩
abbrev main_v583 : Ref sig .tc := ⟨.hbm, 968, rfl⟩
abbrev main_v584 : Ref sig .tc := ⟨.hbm, 969, rfl⟩
abbrev main_v585 : Ref sig .tc := ⟨.hbm, 970, rfl⟩
abbrev main_v586 : Ref sig .tc := ⟨.hbm, 971, rfl⟩
abbrev main_cst_115 : Ref sig .tc := ⟨.hbm, 972, rfl⟩
abbrev main_call55_v0 : Ref sig .tc := ⟨.hbm, 973, rfl⟩
abbrev main_call55_v1 : Ref sig .tc := ⟨.hbm, 974, rfl⟩
abbrev main_call55_v2 : Ref sig .tc := ⟨.hbm, 975, rfl⟩
abbrev main_v587 : Ref sig .tc := ⟨.hbm, 976, rfl⟩
abbrev main_v588 : Ref sig .tc := ⟨.hbm, 977, rfl⟩
abbrev main_c_116 : Ref sig .tc := ⟨.hbm, 978, rfl⟩
abbrev main_v589 : Ref sig .tc := ⟨.hbm, 979, rfl⟩
abbrev main_v590 : Ref sig .tc := ⟨.hbm, 980, rfl⟩
abbrev main_v591 : Ref sig .tc := ⟨.hbm, 981, rfl⟩
abbrev main_v592 : Ref sig .tc := ⟨.hbm, 982, rfl⟩
abbrev main_v593 : Ref sig .tc := ⟨.hbm, 983, rfl⟩
abbrev main_v594 : Ref sig .tc := ⟨.hbm, 984, rfl⟩
abbrev main_v595 : Ref sig .tc := ⟨.hbm, 985, rfl⟩
abbrev main_cst_117 : Ref sig .tc := ⟨.hbm, 986, rfl⟩
abbrev main_call56_v0 : Ref sig .tc := ⟨.hbm, 987, rfl⟩
abbrev main_call56_v1 : Ref sig .tc := ⟨.hbm, 988, rfl⟩
abbrev main_call56_v2 : Ref sig .tc := ⟨.hbm, 989, rfl⟩
abbrev main_v596 : Ref sig .tc := ⟨.hbm, 990, rfl⟩
abbrev main_v597 : Ref sig .tc := ⟨.hbm, 991, rfl⟩
abbrev main_c_118 : Ref sig .tc := ⟨.hbm, 992, rfl⟩
abbrev main_v598 : Ref sig .tc := ⟨.hbm, 993, rfl⟩
abbrev main_v599 : Ref sig .tc := ⟨.hbm, 994, rfl⟩
abbrev main_v600 : Ref sig .tc := ⟨.hbm, 995, rfl⟩
abbrev main_v601 : Ref sig .tc := ⟨.hbm, 996, rfl⟩
abbrev main_v602 : Ref sig .tc := ⟨.hbm, 997, rfl⟩
abbrev main_v603 : Ref sig .tc := ⟨.hbm, 998, rfl⟩
abbrev main_v604 : Ref sig .tc := ⟨.hbm, 999, rfl⟩
abbrev main_cst_119 : Ref sig .tc := ⟨.hbm, 1000, rfl⟩
abbrev main_call57_v0 : Ref sig .tc := ⟨.hbm, 1001, rfl⟩
abbrev main_call57_v1 : Ref sig .tc := ⟨.hbm, 1002, rfl⟩
abbrev main_call57_v2 : Ref sig .tc := ⟨.hbm, 1003, rfl⟩
abbrev main_v605 : Ref sig .tc := ⟨.hbm, 1004, rfl⟩
abbrev main_v606 : Ref sig .tc := ⟨.hbm, 1005, rfl⟩
abbrev main_c_120 : Ref sig .tc := ⟨.hbm, 1006, rfl⟩
abbrev main_v607 : Ref sig .tc := ⟨.hbm, 1007, rfl⟩
abbrev main_v608 : Ref sig .tc := ⟨.hbm, 1008, rfl⟩
abbrev main_v609 : Ref sig .tc := ⟨.hbm, 1009, rfl⟩
abbrev main_v610 : Ref sig .tc := ⟨.hbm, 1010, rfl⟩
abbrev main_v611 : Ref sig .tc := ⟨.hbm, 1011, rfl⟩
abbrev main_v612 : Ref sig .tc := ⟨.hbm, 1012, rfl⟩
abbrev main_v613 : Ref sig .tc := ⟨.hbm, 1013, rfl⟩
abbrev main_cst_121 : Ref sig .tc := ⟨.hbm, 1014, rfl⟩
abbrev main_call58_v0 : Ref sig .tc := ⟨.hbm, 1015, rfl⟩
abbrev main_call58_v1 : Ref sig .tc := ⟨.hbm, 1016, rfl⟩
abbrev main_call58_v2 : Ref sig .tc := ⟨.hbm, 1017, rfl⟩
abbrev main_v614 : Ref sig .tc := ⟨.hbm, 1018, rfl⟩
abbrev main_v615 : Ref sig .tc := ⟨.hbm, 1019, rfl⟩
abbrev main_c_122 : Ref sig .tc := ⟨.hbm, 1020, rfl⟩
abbrev main_v616 : Ref sig .tc := ⟨.hbm, 1021, rfl⟩
abbrev main_v617 : Ref sig .tc := ⟨.hbm, 1022, rfl⟩
abbrev main_v618 : Ref sig .tc := ⟨.hbm, 1023, rfl⟩
abbrev main_v619 : Ref sig .tc := ⟨.hbm, 1024, rfl⟩
abbrev main_v620 : Ref sig .tc := ⟨.hbm, 1025, rfl⟩
abbrev main_v621 : Ref sig .tc := ⟨.hbm, 1026, rfl⟩
abbrev main_v622 : Ref sig .tc := ⟨.hbm, 1027, rfl⟩
abbrev main_cst_123 : Ref sig .tc := ⟨.hbm, 1028, rfl⟩
abbrev main_call59_v0 : Ref sig .tc := ⟨.hbm, 1029, rfl⟩
abbrev main_call59_v1 : Ref sig .tc := ⟨.hbm, 1030, rfl⟩
abbrev main_call59_v2 : Ref sig .tc := ⟨.hbm, 1031, rfl⟩
abbrev main_v623 : Ref sig .tc := ⟨.hbm, 1032, rfl⟩
abbrev main_v624 : Ref sig .tc := ⟨.hbm, 1033, rfl⟩
abbrev main_c_124 : Ref sig .tc := ⟨.hbm, 1034, rfl⟩
abbrev main_v625 : Ref sig .tc := ⟨.hbm, 1035, rfl⟩
abbrev main_v626 : Ref sig .tc := ⟨.hbm, 1036, rfl⟩
abbrev main_v627 : Ref sig .tc := ⟨.hbm, 1037, rfl⟩
abbrev main_v628 : Ref sig .tc := ⟨.hbm, 1038, rfl⟩
abbrev main_v629 : Ref sig .tc := ⟨.hbm, 1039, rfl⟩
abbrev main_v630 : Ref sig .tc := ⟨.hbm, 1040, rfl⟩
abbrev main_v631 : Ref sig .tc := ⟨.hbm, 1041, rfl⟩
abbrev main_cst_125 : Ref sig .tc := ⟨.hbm, 1042, rfl⟩
abbrev main_call60_v0 : Ref sig .tc := ⟨.hbm, 1043, rfl⟩
abbrev main_call60_v1 : Ref sig .tc := ⟨.hbm, 1044, rfl⟩
abbrev main_call60_v2 : Ref sig .tc := ⟨.hbm, 1045, rfl⟩
abbrev main_v632 : Ref sig .tc := ⟨.hbm, 1046, rfl⟩
abbrev main_v633 : Ref sig .tc := ⟨.hbm, 1047, rfl⟩
abbrev main_c_126 : Ref sig .tc := ⟨.hbm, 1048, rfl⟩
abbrev main_v634 : Ref sig .tc := ⟨.hbm, 1049, rfl⟩
abbrev main_v635 : Ref sig .tc := ⟨.hbm, 1050, rfl⟩
abbrev main_v636 : Ref sig .tc := ⟨.hbm, 1051, rfl⟩
abbrev main_v637 : Ref sig .tc := ⟨.hbm, 1052, rfl⟩
abbrev main_v638 : Ref sig .tc := ⟨.hbm, 1053, rfl⟩
abbrev main_v639 : Ref sig .tc := ⟨.hbm, 1054, rfl⟩
abbrev main_v640 : Ref sig .tc := ⟨.hbm, 1055, rfl⟩
abbrev main_cst_127 : Ref sig .tc := ⟨.hbm, 1056, rfl⟩
abbrev main_call61_v0 : Ref sig .tc := ⟨.hbm, 1057, rfl⟩
abbrev main_call61_v1 : Ref sig .tc := ⟨.hbm, 1058, rfl⟩
abbrev main_call61_v2 : Ref sig .tc := ⟨.hbm, 1059, rfl⟩
abbrev main_v641 : Ref sig .tc := ⟨.hbm, 1060, rfl⟩
abbrev main_v642 : Ref sig .tc := ⟨.hbm, 1061, rfl⟩
abbrev main_c_128 : Ref sig .tc := ⟨.hbm, 1062, rfl⟩
abbrev main_v643 : Ref sig .tc := ⟨.hbm, 1063, rfl⟩
abbrev main_v644 : Ref sig .tc := ⟨.hbm, 1064, rfl⟩
abbrev main_v645 : Ref sig .tc := ⟨.hbm, 1065, rfl⟩
abbrev main_v646 : Ref sig .tc := ⟨.hbm, 1066, rfl⟩
abbrev main_v647 : Ref sig .tc := ⟨.hbm, 1067, rfl⟩
abbrev main_v648 : Ref sig .tc := ⟨.hbm, 1068, rfl⟩
abbrev main_v649 : Ref sig .tc := ⟨.hbm, 1069, rfl⟩
abbrev main_cst_129 : Ref sig .tc := ⟨.hbm, 1070, rfl⟩
abbrev main_call62_v0 : Ref sig .tc := ⟨.hbm, 1071, rfl⟩
abbrev main_call62_v1 : Ref sig .tc := ⟨.hbm, 1072, rfl⟩
abbrev main_call62_v2 : Ref sig .tc := ⟨.hbm, 1073, rfl⟩
abbrev main_v650 : Ref sig .tc := ⟨.hbm, 1074, rfl⟩
abbrev main_v651 : Ref sig .tc := ⟨.hbm, 1075, rfl⟩
abbrev main_c_130 : Ref sig .tc := ⟨.hbm, 1076, rfl⟩
abbrev main_v652 : Ref sig .tc := ⟨.hbm, 1077, rfl⟩
abbrev main_v653 : Ref sig .tc := ⟨.hbm, 1078, rfl⟩
abbrev main_v654 : Ref sig .tc := ⟨.hbm, 1079, rfl⟩
abbrev main_c_131 : Ref sig .tc := ⟨.hbm, 1080, rfl⟩
abbrev main_v655 : Ref sig .tc := ⟨.hbm, 1081, rfl⟩
abbrev main_v656 : Ref sig .tc := ⟨.hbm, 1082, rfl⟩
abbrev main_c_132 : Ref sig .tc := ⟨.hbm, 1083, rfl⟩
abbrev main_v657 : Ref sig .tc := ⟨.hbm, 1084, rfl⟩
abbrev main_v658 : Ref sig .tc := ⟨.hbm, 1085, rfl⟩
abbrev main_c_133 : Ref sig .tc := ⟨.hbm, 1086, rfl⟩
abbrev main_call63_v0 : Ref sig .tc := ⟨.hbm, 1087, rfl⟩
abbrev main_call63_c : Ref sig .tc := ⟨.hbm, 1088, rfl⟩
abbrev main_call63_v1 : Ref sig .tc := ⟨.hbm, 1089, rfl⟩
abbrev main_call63_c_0 : Ref sig .tc := ⟨.hbm, 1090, rfl⟩
abbrev main_call63_v2 : Ref sig .tc := ⟨.hbm, 1091, rfl⟩
abbrev main_call63_v3 : Ref sig .tc := ⟨.hbm, 1092, rfl⟩
abbrev main_call63_v4 : Ref sig .tc := ⟨.hbm, 1093, rfl⟩
abbrev main_call63_c_1 : Ref sig .tc := ⟨.hbm, 1094, rfl⟩
abbrev main_call63_v5 : Ref sig .tc := ⟨.hbm, 1095, rfl⟩
abbrev main_call63_v6 : Ref sig .tc := ⟨.hbm, 1096, rfl⟩
abbrev main_call63_c_2 : Ref sig .tc := ⟨.hbm, 1097, rfl⟩
abbrev main_call63_v7 : Ref sig .tc := ⟨.hbm, 1098, rfl⟩
abbrev main_call63_v8 : Ref sig .tc := ⟨.hbm, 1099, rfl⟩
abbrev main_call63_c_3 : Ref sig .tc := ⟨.hbm, 1100, rfl⟩
abbrev main_call63_v9 : Ref sig .tc := ⟨.hbm, 1101, rfl⟩
abbrev main_call63_v10 : Ref sig .tc := ⟨.hbm, 1102, rfl⟩
abbrev main_call63_v11 : Ref sig .tc := ⟨.hbm, 1103, rfl⟩
abbrev main_call63_v12 : Ref sig .tc := ⟨.hbm, 1104, rfl⟩
abbrev main_call63_v13 : Ref sig .tc := ⟨.hbm, 1105, rfl⟩
abbrev main_call63_v14 : Ref sig .tc := ⟨.hbm, 1106, rfl⟩
abbrev main_v659 : Ref sig .tc := ⟨.hbm, 1107, rfl⟩
abbrev main_cst_134 : Ref sig .tc := ⟨.hbm, 1108, rfl⟩
abbrev main_v660 : Ref sig .tc := ⟨.hbm, 1109, rfl⟩
abbrev main_v661 : Ref sig .tc := ⟨.hbm, 1110, rfl⟩
abbrev main_v662 : Ref sig .tc := ⟨.hbm, 1111, rfl⟩
abbrev main_c_135 : Ref sig .tc := ⟨.hbm, 1112, rfl⟩
abbrev main_v663 : Ref sig .tc := ⟨.hbm, 1113, rfl⟩
abbrev main_v664 : Ref sig .tc := ⟨.hbm, 1114, rfl⟩
abbrev main_v665 : Ref sig .tc := ⟨.hbm, 1115, rfl⟩
abbrev main_v666 : Ref sig .tc := ⟨.hbm, 1116, rfl⟩
abbrev main_v667 : Ref sig .tc := ⟨.hbm, 1117, rfl⟩
abbrev main_v668 : Ref sig .tc := ⟨.hbm, 1118, rfl⟩
abbrev main_v669 : Ref sig .tc := ⟨.hbm, 1119, rfl⟩
abbrev main_cst_136 : Ref sig .tc := ⟨.hbm, 1120, rfl⟩
abbrev main_call64_v0 : Ref sig .tc := ⟨.hbm, 1121, rfl⟩
abbrev main_call64_v1 : Ref sig .tc := ⟨.hbm, 1122, rfl⟩
abbrev main_call64_v2 : Ref sig .tc := ⟨.hbm, 1123, rfl⟩
abbrev main_v670 : Ref sig .tc := ⟨.hbm, 1124, rfl⟩
abbrev main_v671 : Ref sig .tc := ⟨.hbm, 1125, rfl⟩
abbrev main_c_137 : Ref sig .tc := ⟨.hbm, 1126, rfl⟩
abbrev main_v672 : Ref sig .tc := ⟨.hbm, 1127, rfl⟩
abbrev main_v673 : Ref sig .tc := ⟨.hbm, 1128, rfl⟩
abbrev main_v674 : Ref sig .tc := ⟨.hbm, 1129, rfl⟩
abbrev main_v675 : Ref sig .tc := ⟨.hbm, 1130, rfl⟩
abbrev main_v676 : Ref sig .tc := ⟨.hbm, 1131, rfl⟩
abbrev main_v677 : Ref sig .tc := ⟨.hbm, 1132, rfl⟩
abbrev main_v678 : Ref sig .tc := ⟨.hbm, 1133, rfl⟩
abbrev main_cst_138 : Ref sig .tc := ⟨.hbm, 1134, rfl⟩
abbrev main_call65_v0 : Ref sig .tc := ⟨.hbm, 1135, rfl⟩
abbrev main_call65_v1 : Ref sig .tc := ⟨.hbm, 1136, rfl⟩
abbrev main_call65_v2 : Ref sig .tc := ⟨.hbm, 1137, rfl⟩
abbrev main_v679 : Ref sig .tc := ⟨.hbm, 1138, rfl⟩
abbrev main_v680 : Ref sig .tc := ⟨.hbm, 1139, rfl⟩
abbrev main_c_139 : Ref sig .tc := ⟨.hbm, 1140, rfl⟩
abbrev main_v681 : Ref sig .tc := ⟨.hbm, 1141, rfl⟩
abbrev main_v682 : Ref sig .tc := ⟨.hbm, 1142, rfl⟩
abbrev main_v683 : Ref sig .tc := ⟨.hbm, 1143, rfl⟩
abbrev main_v684 : Ref sig .tc := ⟨.hbm, 1144, rfl⟩
abbrev main_v685 : Ref sig .tc := ⟨.hbm, 1145, rfl⟩
abbrev main_v686 : Ref sig .tc := ⟨.hbm, 1146, rfl⟩
abbrev main_v687 : Ref sig .tc := ⟨.hbm, 1147, rfl⟩
abbrev main_cst_140 : Ref sig .tc := ⟨.hbm, 1148, rfl⟩
abbrev main_call66_v0 : Ref sig .tc := ⟨.hbm, 1149, rfl⟩
abbrev main_call66_v1 : Ref sig .tc := ⟨.hbm, 1150, rfl⟩
abbrev main_call66_v2 : Ref sig .tc := ⟨.hbm, 1151, rfl⟩
abbrev main_v688 : Ref sig .tc := ⟨.hbm, 1152, rfl⟩
abbrev main_v689 : Ref sig .tc := ⟨.hbm, 1153, rfl⟩
abbrev main_c_141 : Ref sig .tc := ⟨.hbm, 1154, rfl⟩
abbrev main_v690 : Ref sig .tc := ⟨.hbm, 1155, rfl⟩
abbrev main_v691 : Ref sig .tc := ⟨.hbm, 1156, rfl⟩
abbrev main_v692 : Ref sig .tc := ⟨.hbm, 1157, rfl⟩
abbrev main_v693 : Ref sig .tc := ⟨.hbm, 1158, rfl⟩
abbrev main_v694 : Ref sig .tc := ⟨.hbm, 1159, rfl⟩
abbrev main_v695 : Ref sig .tc := ⟨.hbm, 1160, rfl⟩
abbrev main_v696 : Ref sig .tc := ⟨.hbm, 1161, rfl⟩
abbrev main_cst_142 : Ref sig .tc := ⟨.hbm, 1162, rfl⟩
abbrev main_call67_v0 : Ref sig .tc := ⟨.hbm, 1163, rfl⟩
abbrev main_call67_v1 : Ref sig .tc := ⟨.hbm, 1164, rfl⟩
abbrev main_call67_v2 : Ref sig .tc := ⟨.hbm, 1165, rfl⟩
abbrev main_v697 : Ref sig .tc := ⟨.hbm, 1166, rfl⟩
abbrev main_v698 : Ref sig .tc := ⟨.hbm, 1167, rfl⟩
abbrev main_c_143 : Ref sig .tc := ⟨.hbm, 1168, rfl⟩
abbrev main_v699 : Ref sig .tc := ⟨.hbm, 1169, rfl⟩
abbrev main_v700 : Ref sig .tc := ⟨.hbm, 1170, rfl⟩
abbrev main_v701 : Ref sig .tc := ⟨.hbm, 1171, rfl⟩
abbrev main_v702 : Ref sig .tc := ⟨.hbm, 1172, rfl⟩
abbrev main_v703 : Ref sig .tc := ⟨.hbm, 1173, rfl⟩
abbrev main_v704 : Ref sig .tc := ⟨.hbm, 1174, rfl⟩
abbrev main_v705 : Ref sig .tc := ⟨.hbm, 1175, rfl⟩
abbrev main_cst_144 : Ref sig .tc := ⟨.hbm, 1176, rfl⟩
abbrev main_call68_v0 : Ref sig .tc := ⟨.hbm, 1177, rfl⟩
abbrev main_call68_v1 : Ref sig .tc := ⟨.hbm, 1178, rfl⟩
abbrev main_call68_v2 : Ref sig .tc := ⟨.hbm, 1179, rfl⟩
abbrev main_v706 : Ref sig .tc := ⟨.hbm, 1180, rfl⟩
abbrev main_v707 : Ref sig .tc := ⟨.hbm, 1181, rfl⟩
abbrev main_c_145 : Ref sig .tc := ⟨.hbm, 1182, rfl⟩
abbrev main_v708 : Ref sig .tc := ⟨.hbm, 1183, rfl⟩
abbrev main_v709 : Ref sig .tc := ⟨.hbm, 1184, rfl⟩
abbrev main_v710 : Ref sig .tc := ⟨.hbm, 1185, rfl⟩
abbrev main_v711 : Ref sig .tc := ⟨.hbm, 1186, rfl⟩
abbrev main_v712 : Ref sig .tc := ⟨.hbm, 1187, rfl⟩
abbrev main_v713 : Ref sig .tc := ⟨.hbm, 1188, rfl⟩
abbrev main_v714 : Ref sig .tc := ⟨.hbm, 1189, rfl⟩
abbrev main_cst_146 : Ref sig .tc := ⟨.hbm, 1190, rfl⟩
abbrev main_call69_v0 : Ref sig .tc := ⟨.hbm, 1191, rfl⟩
abbrev main_call69_v1 : Ref sig .tc := ⟨.hbm, 1192, rfl⟩
abbrev main_call69_v2 : Ref sig .tc := ⟨.hbm, 1193, rfl⟩
abbrev main_v715 : Ref sig .tc := ⟨.hbm, 1194, rfl⟩
abbrev main_v716 : Ref sig .tc := ⟨.hbm, 1195, rfl⟩
abbrev main_c_147 : Ref sig .tc := ⟨.hbm, 1196, rfl⟩
abbrev main_v717 : Ref sig .tc := ⟨.hbm, 1197, rfl⟩
abbrev main_v718 : Ref sig .tc := ⟨.hbm, 1198, rfl⟩
abbrev main_v719 : Ref sig .tc := ⟨.hbm, 1199, rfl⟩
abbrev main_v720 : Ref sig .tc := ⟨.hbm, 1200, rfl⟩
abbrev main_v721 : Ref sig .tc := ⟨.hbm, 1201, rfl⟩
abbrev main_v722 : Ref sig .tc := ⟨.hbm, 1202, rfl⟩
abbrev main_v723 : Ref sig .tc := ⟨.hbm, 1203, rfl⟩
abbrev main_cst_148 : Ref sig .tc := ⟨.hbm, 1204, rfl⟩
abbrev main_call70_v0 : Ref sig .tc := ⟨.hbm, 1205, rfl⟩
abbrev main_call70_v1 : Ref sig .tc := ⟨.hbm, 1206, rfl⟩
abbrev main_call70_v2 : Ref sig .tc := ⟨.hbm, 1207, rfl⟩
abbrev main_v724 : Ref sig .tc := ⟨.hbm, 1208, rfl⟩
abbrev main_v725 : Ref sig .tc := ⟨.hbm, 1209, rfl⟩
abbrev main_c_149 : Ref sig .tc := ⟨.hbm, 1210, rfl⟩
abbrev main_v726 : Ref sig .tc := ⟨.hbm, 1211, rfl⟩
abbrev main_v727 : Ref sig .tc := ⟨.hbm, 1212, rfl⟩
abbrev main_v728 : Ref sig .tc := ⟨.hbm, 1213, rfl⟩
abbrev main_v729 : Ref sig .tc := ⟨.hbm, 1214, rfl⟩
abbrev main_v730 : Ref sig .tc := ⟨.hbm, 1215, rfl⟩
abbrev main_v731 : Ref sig .tc := ⟨.hbm, 1216, rfl⟩
abbrev main_v732 : Ref sig .tc := ⟨.hbm, 1217, rfl⟩
abbrev main_cst_150 : Ref sig .tc := ⟨.hbm, 1218, rfl⟩
abbrev main_call71_v0 : Ref sig .tc := ⟨.hbm, 1219, rfl⟩
abbrev main_call71_v1 : Ref sig .tc := ⟨.hbm, 1220, rfl⟩
abbrev main_call71_v2 : Ref sig .tc := ⟨.hbm, 1221, rfl⟩
abbrev main_v733 : Ref sig .tc := ⟨.hbm, 1222, rfl⟩
abbrev main_v734 : Ref sig .tc := ⟨.hbm, 1223, rfl⟩
abbrev main_c_151 : Ref sig .tc := ⟨.hbm, 1224, rfl⟩
abbrev main_v735 : Ref sig .tc := ⟨.hbm, 1225, rfl⟩
abbrev main_v736 : Ref sig .tc := ⟨.hbm, 1226, rfl⟩
abbrev main_v737 : Ref sig .tc := ⟨.hbm, 1227, rfl⟩
abbrev main_c_152 : Ref sig .tc := ⟨.hbm, 1228, rfl⟩
abbrev main_v738 : Ref sig .tc := ⟨.hbm, 1229, rfl⟩
abbrev main_v739 : Ref sig .tc := ⟨.hbm, 1230, rfl⟩
abbrev main_c_153 : Ref sig .tc := ⟨.hbm, 1231, rfl⟩
abbrev main_v740 : Ref sig .tc := ⟨.hbm, 1232, rfl⟩
abbrev main_v741 : Ref sig .tc := ⟨.hbm, 1233, rfl⟩
abbrev main_c_154 : Ref sig .tc := ⟨.hbm, 1234, rfl⟩
abbrev main_call72_v0 : Ref sig .tc := ⟨.hbm, 1235, rfl⟩
abbrev main_call72_c : Ref sig .tc := ⟨.hbm, 1236, rfl⟩
abbrev main_call72_v1 : Ref sig .tc := ⟨.hbm, 1237, rfl⟩
abbrev main_call72_c_0 : Ref sig .tc := ⟨.hbm, 1238, rfl⟩
abbrev main_call72_v2 : Ref sig .tc := ⟨.hbm, 1239, rfl⟩
abbrev main_call72_v3 : Ref sig .tc := ⟨.hbm, 1240, rfl⟩
abbrev main_call72_v4 : Ref sig .tc := ⟨.hbm, 1241, rfl⟩
abbrev main_call72_c_1 : Ref sig .tc := ⟨.hbm, 1242, rfl⟩
abbrev main_call72_v5 : Ref sig .tc := ⟨.hbm, 1243, rfl⟩
abbrev main_call72_v6 : Ref sig .tc := ⟨.hbm, 1244, rfl⟩
abbrev main_call72_c_2 : Ref sig .tc := ⟨.hbm, 1245, rfl⟩
abbrev main_call72_v7 : Ref sig .tc := ⟨.hbm, 1246, rfl⟩
abbrev main_call72_v8 : Ref sig .tc := ⟨.hbm, 1247, rfl⟩
abbrev main_call72_c_3 : Ref sig .tc := ⟨.hbm, 1248, rfl⟩
abbrev main_call72_v9 : Ref sig .tc := ⟨.hbm, 1249, rfl⟩
abbrev main_call72_v10 : Ref sig .tc := ⟨.hbm, 1250, rfl⟩
abbrev main_call72_v11 : Ref sig .tc := ⟨.hbm, 1251, rfl⟩
abbrev main_call72_v12 : Ref sig .tc := ⟨.hbm, 1252, rfl⟩
abbrev main_call72_v13 : Ref sig .tc := ⟨.hbm, 1253, rfl⟩
abbrev main_call72_v14 : Ref sig .tc := ⟨.hbm, 1254, rfl⟩
abbrev main_v742 : Ref sig .tc := ⟨.hbm, 1255, rfl⟩
abbrev main_cst_155 : Ref sig .tc := ⟨.hbm, 1256, rfl⟩
abbrev main_v743 : Ref sig .tc := ⟨.hbm, 1257, rfl⟩
abbrev main_v744 : Ref sig .tc := ⟨.hbm, 1258, rfl⟩
abbrev main_v745 : Ref sig .tc := ⟨.hbm, 1259, rfl⟩
abbrev main_c_156 : Ref sig .tc := ⟨.hbm, 1260, rfl⟩
abbrev main_v746 : Ref sig .tc := ⟨.hbm, 1261, rfl⟩
abbrev main_v747 : Ref sig .tc := ⟨.hbm, 1262, rfl⟩
abbrev main_v748 : Ref sig .tc := ⟨.hbm, 1263, rfl⟩
abbrev main_v749 : Ref sig .tc := ⟨.hbm, 1264, rfl⟩
abbrev main_v750 : Ref sig .tc := ⟨.hbm, 1265, rfl⟩
abbrev main_v751 : Ref sig .tc := ⟨.hbm, 1266, rfl⟩
abbrev main_v752 : Ref sig .tc := ⟨.hbm, 1267, rfl⟩
abbrev main_cst_157 : Ref sig .tc := ⟨.hbm, 1268, rfl⟩
abbrev main_call73_v0 : Ref sig .tc := ⟨.hbm, 1269, rfl⟩
abbrev main_call73_v1 : Ref sig .tc := ⟨.hbm, 1270, rfl⟩
abbrev main_call73_v2 : Ref sig .tc := ⟨.hbm, 1271, rfl⟩
abbrev main_v753 : Ref sig .tc := ⟨.hbm, 1272, rfl⟩
abbrev main_v754 : Ref sig .tc := ⟨.hbm, 1273, rfl⟩
abbrev main_c_158 : Ref sig .tc := ⟨.hbm, 1274, rfl⟩
abbrev main_v755 : Ref sig .tc := ⟨.hbm, 1275, rfl⟩
abbrev main_v756 : Ref sig .tc := ⟨.hbm, 1276, rfl⟩
abbrev main_v757 : Ref sig .tc := ⟨.hbm, 1277, rfl⟩
abbrev main_v758 : Ref sig .tc := ⟨.hbm, 1278, rfl⟩
abbrev main_v759 : Ref sig .tc := ⟨.hbm, 1279, rfl⟩
abbrev main_v760 : Ref sig .tc := ⟨.hbm, 1280, rfl⟩
abbrev main_v761 : Ref sig .tc := ⟨.hbm, 1281, rfl⟩
abbrev main_cst_159 : Ref sig .tc := ⟨.hbm, 1282, rfl⟩
abbrev main_call74_v0 : Ref sig .tc := ⟨.hbm, 1283, rfl⟩
abbrev main_call74_v1 : Ref sig .tc := ⟨.hbm, 1284, rfl⟩
abbrev main_call74_v2 : Ref sig .tc := ⟨.hbm, 1285, rfl⟩
abbrev main_v762 : Ref sig .tc := ⟨.hbm, 1286, rfl⟩
abbrev main_v763 : Ref sig .tc := ⟨.hbm, 1287, rfl⟩
abbrev main_c_160 : Ref sig .tc := ⟨.hbm, 1288, rfl⟩
abbrev main_v764 : Ref sig .tc := ⟨.hbm, 1289, rfl⟩
abbrev main_v765 : Ref sig .tc := ⟨.hbm, 1290, rfl⟩
abbrev main_v766 : Ref sig .tc := ⟨.hbm, 1291, rfl⟩
abbrev main_v767 : Ref sig .tc := ⟨.hbm, 1292, rfl⟩
abbrev main_v768 : Ref sig .tc := ⟨.hbm, 1293, rfl⟩
abbrev main_v769 : Ref sig .tc := ⟨.hbm, 1294, rfl⟩
abbrev main_v770 : Ref sig .tc := ⟨.hbm, 1295, rfl⟩
abbrev main_cst_161 : Ref sig .tc := ⟨.hbm, 1296, rfl⟩
abbrev main_call75_v0 : Ref sig .tc := ⟨.hbm, 1297, rfl⟩
abbrev main_call75_v1 : Ref sig .tc := ⟨.hbm, 1298, rfl⟩
abbrev main_call75_v2 : Ref sig .tc := ⟨.hbm, 1299, rfl⟩
abbrev main_v771 : Ref sig .tc := ⟨.hbm, 1300, rfl⟩
abbrev main_v772 : Ref sig .tc := ⟨.hbm, 1301, rfl⟩
abbrev main_c_162 : Ref sig .tc := ⟨.hbm, 1302, rfl⟩
abbrev main_v773 : Ref sig .tc := ⟨.hbm, 1303, rfl⟩
abbrev main_v774 : Ref sig .tc := ⟨.hbm, 1304, rfl⟩
abbrev main_v775 : Ref sig .tc := ⟨.hbm, 1305, rfl⟩
abbrev main_v776 : Ref sig .tc := ⟨.hbm, 1306, rfl⟩
abbrev main_v777 : Ref sig .tc := ⟨.hbm, 1307, rfl⟩
abbrev main_v778 : Ref sig .tc := ⟨.hbm, 1308, rfl⟩
abbrev main_v779 : Ref sig .tc := ⟨.hbm, 1309, rfl⟩
abbrev main_cst_163 : Ref sig .tc := ⟨.hbm, 1310, rfl⟩
abbrev main_call76_v0 : Ref sig .tc := ⟨.hbm, 1311, rfl⟩
abbrev main_call76_v1 : Ref sig .tc := ⟨.hbm, 1312, rfl⟩
abbrev main_call76_v2 : Ref sig .tc := ⟨.hbm, 1313, rfl⟩
abbrev main_v780 : Ref sig .tc := ⟨.hbm, 1314, rfl⟩
abbrev main_v781 : Ref sig .tc := ⟨.hbm, 1315, rfl⟩
abbrev main_c_164 : Ref sig .tc := ⟨.hbm, 1316, rfl⟩
abbrev main_v782 : Ref sig .tc := ⟨.hbm, 1317, rfl⟩
abbrev main_v783 : Ref sig .tc := ⟨.hbm, 1318, rfl⟩
abbrev main_v784 : Ref sig .tc := ⟨.hbm, 1319, rfl⟩
abbrev main_v785 : Ref sig .tc := ⟨.hbm, 1320, rfl⟩
abbrev main_v786 : Ref sig .tc := ⟨.hbm, 1321, rfl⟩
abbrev main_v787 : Ref sig .tc := ⟨.hbm, 1322, rfl⟩
abbrev main_v788 : Ref sig .tc := ⟨.hbm, 1323, rfl⟩
abbrev main_cst_165 : Ref sig .tc := ⟨.hbm, 1324, rfl⟩
abbrev main_call77_v0 : Ref sig .tc := ⟨.hbm, 1325, rfl⟩
abbrev main_call77_v1 : Ref sig .tc := ⟨.hbm, 1326, rfl⟩
abbrev main_call77_v2 : Ref sig .tc := ⟨.hbm, 1327, rfl⟩
abbrev main_v789 : Ref sig .tc := ⟨.hbm, 1328, rfl⟩
abbrev main_v790 : Ref sig .tc := ⟨.hbm, 1329, rfl⟩
abbrev main_c_166 : Ref sig .tc := ⟨.hbm, 1330, rfl⟩
abbrev main_v791 : Ref sig .tc := ⟨.hbm, 1331, rfl⟩
abbrev main_v792 : Ref sig .tc := ⟨.hbm, 1332, rfl⟩
abbrev main_v793 : Ref sig .tc := ⟨.hbm, 1333, rfl⟩
abbrev main_v794 : Ref sig .tc := ⟨.hbm, 1334, rfl⟩
abbrev main_v795 : Ref sig .tc := ⟨.hbm, 1335, rfl⟩
abbrev main_v796 : Ref sig .tc := ⟨.hbm, 1336, rfl⟩
abbrev main_v797 : Ref sig .tc := ⟨.hbm, 1337, rfl⟩
abbrev main_cst_167 : Ref sig .tc := ⟨.hbm, 1338, rfl⟩
abbrev main_call78_v0 : Ref sig .tc := ⟨.hbm, 1339, rfl⟩
abbrev main_call78_v1 : Ref sig .tc := ⟨.hbm, 1340, rfl⟩
abbrev main_call78_v2 : Ref sig .tc := ⟨.hbm, 1341, rfl⟩
abbrev main_v798 : Ref sig .tc := ⟨.hbm, 1342, rfl⟩
abbrev main_v799 : Ref sig .tc := ⟨.hbm, 1343, rfl⟩
abbrev main_c_168 : Ref sig .tc := ⟨.hbm, 1344, rfl⟩
abbrev main_v800 : Ref sig .tc := ⟨.hbm, 1345, rfl⟩
abbrev main_v801 : Ref sig .tc := ⟨.hbm, 1346, rfl⟩
abbrev main_v802 : Ref sig .tc := ⟨.hbm, 1347, rfl⟩
abbrev main_v803 : Ref sig .tc := ⟨.hbm, 1348, rfl⟩
abbrev main_v804 : Ref sig .tc := ⟨.hbm, 1349, rfl⟩
abbrev main_v805 : Ref sig .tc := ⟨.hbm, 1350, rfl⟩
abbrev main_v806 : Ref sig .tc := ⟨.hbm, 1351, rfl⟩
abbrev main_cst_169 : Ref sig .tc := ⟨.hbm, 1352, rfl⟩
abbrev main_call79_v0 : Ref sig .tc := ⟨.hbm, 1353, rfl⟩
abbrev main_call79_v1 : Ref sig .tc := ⟨.hbm, 1354, rfl⟩
abbrev main_call79_v2 : Ref sig .tc := ⟨.hbm, 1355, rfl⟩
abbrev main_v807 : Ref sig .tc := ⟨.hbm, 1356, rfl⟩
abbrev main_v808 : Ref sig .tc := ⟨.hbm, 1357, rfl⟩
abbrev main_c_170 : Ref sig .tc := ⟨.hbm, 1358, rfl⟩
abbrev main_v809 : Ref sig .tc := ⟨.hbm, 1359, rfl⟩
abbrev main_v810 : Ref sig .tc := ⟨.hbm, 1360, rfl⟩
abbrev main_v811 : Ref sig .tc := ⟨.hbm, 1361, rfl⟩
abbrev main_v812 : Ref sig .tc := ⟨.hbm, 1362, rfl⟩
abbrev main_v813 : Ref sig .tc := ⟨.hbm, 1363, rfl⟩
abbrev main_v814 : Ref sig .tc := ⟨.hbm, 1364, rfl⟩
abbrev main_v815 : Ref sig .tc := ⟨.hbm, 1365, rfl⟩
abbrev main_cst_171 : Ref sig .tc := ⟨.hbm, 1366, rfl⟩
abbrev main_call80_v0 : Ref sig .tc := ⟨.hbm, 1367, rfl⟩
abbrev main_call80_v1 : Ref sig .tc := ⟨.hbm, 1368, rfl⟩
abbrev main_call80_v2 : Ref sig .tc := ⟨.hbm, 1369, rfl⟩
abbrev main_v816 : Ref sig .tc := ⟨.hbm, 1370, rfl⟩
abbrev main_v817 : Ref sig .tc := ⟨.hbm, 1371, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.WordCmp
public import Idealize.ShloMosaic.Lib.Affine
public import Idealize.ShloMosaic.Lib.IdealHost
public import Idealize.ShloMosaic.Lib.KernelVsHost

@[expose] public section

set_option maxRecDepth 16384

noncomputable section

/-! The mixture both programs compute, written once over the argument arrays, and the facts of
extended reals and of 32-bit words that connect the two ways of computing it. -/

namespace Cert.Moe

open Idealize.ShloMosaic

/-- Expert `j` applied to token `(p, s)`, feature `d`: two affine maps with a rectifier between them. -/
def expert (X : FVec Ideal ⟨3, ![2, 2048, 1024]⟩ .f32) (W1 : FVec Ideal ⟨3, ![8, 1024, 4096]⟩ .f32)
    (B1 : FVec Ideal ⟨2, ![8, 4096]⟩ .f32) (W2 : FVec Ideal ⟨3, ![8, 4096, 1024]⟩ .f32)
    (B2 : FVec Ideal ⟨2, ![8, 1024]⟩ .f32) (j : Fin 8) (p : Fin 2) (s : Fin 2048) (d : Fin 1024) : EReal :=
  ∑ f : Fin 4096, max (∑ k : Fin 1024, X (ix3 p s k) * W1 (ix3 j k f) + B1 (ix2 j f)) 0 * W2 (ix3 j f d)
    + B2 (ix2 j d)

/-- The uncertainty of token `(p, s)`: the logistic of a linear form. -/
def uncert (X : FVec Ideal ⟨3, ![2, 2048, 1024]⟩ .f32) (Wu : FVec Ideal ⟨2, ![1024, 1]⟩ .f32)
    (Bu : FVec Ideal ⟨1, ![1]⟩ .f32) (p : Fin 2) (s : Fin 2048) : EReal :=
  Ideal.logistic (∑ k : Fin 1024, X (ix3 p s k) * Wu (ix2 k 0) + Bu (ix1 0))

/-- How many experts a token of uncertainty `u` takes: `⌈8 u⌉` clipped to `1 … 8`, as a word. -/
def count (u : EReal) : BitVec 32 :=
  Ideal.fptosi 32 (min (((8#32).toInt : ℝ) : EReal) (max (((1#32).toInt : ℝ) : EReal)
    (Ideal.liftRound Int.ceil (u * Ideal.ofBits FTy.f32 0x41000000#32))))

/-- Which turn expert `j` has at position `s`: the `κ` below 8 with `s + κ = j` modulo 8. -/
def turn (j s : ℕ) : ℕ := (j + 8 - s % 8) % 8

/-- The weight of the expert whose turn is `κ`: `u / (κ + 1)` if the token takes more than `κ` experts. -/
def weight (u : EReal) (κ : ℕ) : EReal :=
  if (κ : ℤ) < (count u).toInt then Ideal.div u (((κ : ℝ) + 1 : ℝ) : EReal) else 0

/-- The mixture: every expert's value times the weight of its turn, summed over the experts. -/
def mixture (X : FVec Ideal ⟨3, ![2, 2048, 1024]⟩ .f32) (W1 : FVec Ideal ⟨3, ![8, 1024, 4096]⟩ .f32)
    (B1 : FVec Ideal ⟨2, ![8, 4096]⟩ .f32) (W2 : FVec Ideal ⟨3, ![8, 4096, 1024]⟩ .f32)
    (B2 : FVec Ideal ⟨2, ![8, 1024]⟩ .f32) (Wu : FVec Ideal ⟨2, ![1024, 1]⟩ .f32) (Bu : FVec Ideal ⟨1, ![1]⟩ .f32)
    (p : Fin 2) (s : Fin 2048) (d : Fin 1024) : EReal :=
  ∑ j : Fin 8, expert X W1 B1 W2 B2 j p s d * weight (uncert X Wu Bu p s) (turn j s)

/-! ## The weight is a nonnegative real -/

/-- A logistic value is a nonnegative real, at the infinities too. -/
theorem logistic_real (z : EReal) : ∃ r : ℝ, 0 ≤ r ∧ Ideal.logistic z = (r : EReal) := by
  induction z with
  | bot => exact ⟨0, le_refl _, by simp⟩
  | top => exact ⟨1, zero_le_one, by simp⟩
  | coe x => exact ⟨_, by positivity, Ideal.logistic_coe x⟩

/-- So is the weight of a turn, when the uncertainty is a logistic value. -/
theorem weight_real (z : EReal) (κ : ℕ) : ∃ r : ℝ, 0 ≤ r ∧ weight (Ideal.logistic z) κ = (r : EReal) := by
  obtain ⟨u, hu, e⟩ := logistic_real z
  unfold weight
  split
  · have hk : (0 : ℝ) < (κ : ℝ) + 1 := by positivity
    refine ⟨u * (1 / ((κ : ℝ) + 1)), by positivity, ?_⟩
    rw [e, Ideal.div_coe hk.ne', ← EReal.coe_mul]
  · exact ⟨0, le_refl _, by simp⟩

/-- Multiplication by a nonnegative real distributes over a finite sum of extended reals. -/
theorem sum_mul_real {ι : Type} (S : Finset ι) (g : ι → EReal) {r : ℝ} (hr : 0 ≤ r) :
    (∑ i ∈ S, g i) * (r : EReal) = ∑ i ∈ S, g i * (r : EReal) := by
  classical
  induction S using Finset.induction_on with
  | empty => simp
  | insert a S ha ih =>
    rw [Finset.sum_insert ha, Finset.sum_insert ha, ← ih, mul_comm, EReal.left_distrib_of_nonneg_of_ne_top (EReal.coe_nonneg.mpr hr) (EReal.coe_ne_top r), mul_comm (r : EReal),
      mul_comm (r : EReal)]

/-- Scaling an affine image: the factor may enter each product of the sum and the offset. -/
theorem affine_mul_real {ι : Type} [Fintype ι] (h w : ι → EReal) (b : EReal) {r : ℝ} (hr : 0 ≤ r) :
    ∑ f, h f * (r : EReal) * w f + (r : EReal) * b = (∑ f, h f * w f + b) * (r : EReal) := by
  rw [mul_comm (_ + b), EReal.left_distrib_of_nonneg_of_ne_top (EReal.coe_nonneg.mpr hr) (EReal.coe_ne_top r), mul_comm (r : EReal) (∑ f, _), sum_mul_real _ _ hr]
  exact congrArg (· + _) (Finset.sum_congr rfl fun f _ => by rw [mul_assoc, mul_assoc, mul_comm (r : EReal)])

/-! ## The words -/

/-- Masking a word by 7 keeps its value modulo 8. -/
theorem toNat_and_seven (x : BitVec 32) : (x &&& 7#32).toNat = x.toNat % 8 := by
  rw [BitVec.toNat_and]
  exact Nat.and_two_pow_sub_one_eq_mod _ 3

/-- The kernel's turn word: `(j - (512 a + r)) & 7` is the turn of expert `j` at that token. -/
theorem turn_word (a r j : ℕ) (ha : a < 8) (hr : r < 512) (hj : j < 8) :
    IntOp.andi (IntOp.subi (BitVec.ofNat 32 j)
      (IntOp.addi (Scalar.muli (BitVec.ofNat 32 a) 512#32) (BitVec.ofNat 32 r))) 7#32
      = BitVec.ofNat 32 (turn j (a * 512 + r)) := by
  apply BitVec.eq_of_toNat_eq
  show ((BitVec.ofNat 32 j - (BitVec.ofNat 32 a * 512#32 + BitVec.ofNat 32 r)) &&& 7#32).toNat = _
  rw [toNat_and_seven, BitVec.toNat_sub, BitVec.toNat_add, BitVec.toNat_mul]
  simp only [BitVec.toNat_ofNat]
  unfold turn
  omega

/-- The turn is below 8. -/
theorem turn_lt (j s : ℕ) : turn j s < 8 := Nat.mod_lt _ (by decide)

/-- A token's number in its sequence gives the same turn as its number in the batch. -/
theorem turn_add (j s q : ℕ) : turn j (q * 2048 + s) = turn j s := by
  unfold turn; omega

/-- A small number read back from its word as a signed one. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- The mask of the column asked for, as a number: 1, -/
theorem onehot_same (n : ℕ) :
    (FloatOps.sitofp (F := Ideal) FTy.f32 (BitVec.setWidth 32 (IntOp.cmpi .eq (BitVec.ofNat 32 n) (BitVec.ofNat 32 n))) : EReal) = 1 := by
  rw [IntOp.cmpi_eq.mpr rfl]
  show (((BitVec.setWidth 32 1#1).toInt : ℝ) : EReal) = 1
  norm_num

/-- and 0 at the other columns. -/
theorem onehot_other (a b : ℕ) (ha : a < 8) (hb : b < 8) (h : a ≠ b) :
    (FloatOps.sitofp (F := Ideal) FTy.f32 (BitVec.setWidth 32 (IntOp.cmpi .eq (BitVec.ofNat 32 a) (BitVec.ofNat 32 b))) : EReal) = 0 := by
  have e : IntOp.cmpi .eq (BitVec.ofNat 32 a) (BitVec.ofNat 32 b) = 0#1 := by
    have hn : ¬ IntOp.cmpi .eq (BitVec.ofNat 32 a) (BitVec.ofNat 32 b) = 1#1 := fun h1 => h (by
      have := congrArg BitVec.toNat (IntOp.cmpi_eq.mp h1)
      simp only [BitVec.toNat_ofNat] at this
      omega)
    generalize IntOp.cmpi .eq (BitVec.ofNat 32 a) (BitVec.ofNat 32 b) = w at hn ⊢
    revert hn; revert w; decide
  rw [e]
  show (((BitVec.setWidth 32 0#1).toInt : ℝ) : EReal) = 0
  norm_num

/-- A selection whose mask bit is not set takes the second value. -/
theorem select_of_ne {w : BitVec 1} (x y : EReal) (h : ¬ w = 1#1) : Scalar.select w x y = y := by
  have : w = 0#1 := by revert h; revert w; decide
  rw [this]; rfl

/-- The kernel's selection of a weight by a signed comparison of words is the weight. -/
theorem weight_select (u : EReal) (κ : ℕ) (hκ : κ < 8) :
    Scalar.select (IntOp.cmpi .sgt (count u) (BitVec.ofNat 32 κ))
      (Ideal.div u (FloatOps.sitofp (F := Ideal) FTy.f32 (IntOp.addi (BitVec.ofNat 32 κ) 1#32))) (0 : EReal) = weight u κ := by
  have hs : (FloatOps.sitofp (F := Ideal) FTy.f32 (IntOp.addi (BitVec.ofNat 32 κ) 1#32) : EReal) = (((κ : ℝ) + 1 : ℝ) : EReal) := by
    show (((BitVec.ofNat 32 κ + 1#32).toInt : ℝ) : EReal) = _
    have : BitVec.ofNat 32 κ + 1#32 = BitVec.ofNat 32 (κ + 1) := by
      apply BitVec.eq_of_toNat_eq; simp
    rw [this, toInt_small _ (by omega)]
    push_cast; rfl
  rw [hs]
  unfold weight
  by_cases h : (κ : ℤ) < (count u).toInt
  · rw [if_pos h, IntOp.cmpi_sgt.mpr (by rw [toInt_small κ (by omega)]; exact h)]; rfl
  · have hn : ¬ IntOp.cmpi .sgt (count u) (BitVec.ofNat 32 κ) = 1#1 := fun h1 => h (by
      have := IntOp.cmpi_sgt.mp h1
      rwa [toInt_small κ (by omega)] at this)
    rw [if_neg h]
    exact select_of_ne _ _ hn

end Cert.Moe

end
-- ==== Proof.Blocks.lean ====
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.KernelIdeal.Moe

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! The arguments of the program as arrays of extended reals. -/

/-- The tokens. -/
abbrev argX (c : Dev nD) : FVec Ideal ⟨3, ![2, 2048, 1024]⟩ .f32 := m ((c : Thread nD τ).loc main_arg0)
/-- The first layers. -/
abbrev argW1 (c : Dev nD) : FVec Ideal ⟨3, ![8, 1024, 4096]⟩ .f32 := m ((c : Thread nD τ).loc main_arg1)
/-- The first offsets. -/
abbrev argB1 (c : Dev nD) : FVec Ideal ⟨2, ![8, 4096]⟩ .f32 := m ((c : Thread nD τ).loc main_arg2)
/-- The second layers. -/
abbrev argW2 (c : Dev nD) : FVec Ideal ⟨3, ![8, 4096, 1024]⟩ .f32 := m ((c : Thread nD τ).loc main_arg3)
/-- The second offsets. -/
abbrev argB2 (c : Dev nD) : FVec Ideal ⟨2, ![8, 1024]⟩ .f32 := m ((c : Thread nD τ).loc main_arg4)
/-- The uncertainty weights. -/
abbrev argWu (c : Dev nD) : FVec Ideal ⟨2, ![1024, 1]⟩ .f32 := m ((c : Thread nD τ).loc main_arg5)
/-- The uncertainty offset. -/
abbrev argBu (c : Dev nD) : FVec Ideal ⟨1, ![1]⟩ .f32 := m ((c : Thread nD τ).loc main_arg6)

/-- Where each window's block sits at every grid point. -/
theorem idx : ∀ t : Fin cfg0.N, win0_0.index t = ![t.val / 8, 0] ∧ win0_1.index t = ![0, 0] ∧ win0_2.index t = ![0, 0]
    ∧ win0_3.index t = ![t.val % 8, 0, 0] ∧ win0_4.index t = ![t.val % 8, 0, 0] ∧ win0_5.index t = ![t.val % 8, 0, 0]
    ∧ win0_6.index t = ![t.val % 8, 0, 0] ∧ win0_7.index t = ![t.val / 8, 0] :=
  (by decide +kernel : ∀ t : Fin grid0.N, _)

/-- The grid coordinates of a point: the block of tokens and the expert. -/
theorem coords : ∀ t : Fin cfg0.N, (grid0.coords t 0).val = t.val / 8 ∧ (grid0.coords t 1).val = t.val % 8 :=
  (by decide +kernel : ∀ t : Fin grid0.N, _)

/-- The region finds the tokens of both sequences in one list, rounded to bf16. -/
theorem V_x (c : Dev nD) : (V m c main_call0_v1 : FVec Ideal S4096x1024 .bf16)
    = truncf .bf16 (shapeCast S4096x1024 (argX m c) shapeCasts_S2x2048x1024_S4096x1024) bitsLt_bf16_f32 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The first layer, rounded to bf16. -/
theorem V_w1 (c : Dev nD) : (V m c main_call0_v2 : FVec Ideal S8x1024x4096 .bf16)
    = truncf .bf16 (argW1 m c) bitsLt_bf16_f32 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The second layer, rounded to bf16. -/
theorem V_w2 (c : Dev nD) : (V m c main_call0_v3 : FVec Ideal S8x4096x1024 .bf16)
    = truncf .bf16 (argW2 m c) bitsLt_bf16_f32 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The uncertainty weights, rounded to bf16. -/
theorem V_wu (c : Dev nD) : (V m c main_call0_v4 : FVec Ideal S1024x1 .bf16)
    = truncf .bf16 (argWu m c) bitsLt_bf16_f32 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The uncertainty offset as a 1 by 1 array. -/
theorem V_bu (c : Dev nD) : (V m c main_call0_v5 : FVec Ideal S1x1 .f32)
    = shapeCast S1x1 (argBu m c) shapeCasts_S1_S1x1 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The first offsets with a unit axis. -/
theorem V_b1 (c : Dev nD) : (V m c main_call0_v6 : FVec Ideal S8x1x4096 .f32)
    = shapeCast S8x1x4096 (argB1 m c) shapeCasts_S8x4096_S8x1x4096 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- The second offsets with a unit axis. -/
theorem V_b2 (c : Dev nD) : (V m c main_call0_v7 : FVec Ideal S8x1x1024 .f32)
    = shapeCast S8x1x1024 (argB2 m c) shapeCasts_S8x1024_S8x1x1024 := by
  unfold V V0
  simp only [hostOps0, List.flatten_cons, List.flatten_nil, List.append_nil, StableHlo.TRef.reshape, StableHlo.TRef.unary,
    StableHlo.TRef.toBuf, StableHlo.TRef.ofBuf, cast_eq]
  after_results
  try rfl

/-- Row `r` of the block of tokens at point `t` is token `512 (t / 8) + r` of the batch. -/
theorem iblk0_at (c : Dev nD) (t : Fin cfg0.N) (r : Fin 512) (k : Fin 1024) (p : Fin 2) (s : Fin 2048)
    (h : t.val / 8 * 512 + r.val = p.val * 2048 + s.val) :
    (show FVec Ideal S512x1024 .bf16 from iblk m c 0 t) (ix2 r k) = argX m c (ix3 p s k) := by
  show iblk m c 0 t (ix2 r k) = _
  blk_simp [iblk]
  refine (congrFun (V_x m c) _).trans ?_
  pointwise
  blk_ext [idx t]

/-- The uncertainty weights are the same block at every point. -/
theorem iblk1_at (c : Dev nD) (t : Fin cfg0.N) (k : Fin 1024) :
    (show FVec Ideal S1024x1 .bf16 from iblk m c 1 t) (ix2 k 0) = argWu m c (ix2 k 0) := by
  show iblk m c 1 t (ix2 k 0) = _
  blk_simp [iblk]
  refine (congrFun (V_wu m c) _).trans ?_
  pointwise
  blk_ext [idx t]

/-- So is the uncertainty offset. -/
theorem iblk2_at (c : Dev nD) (t : Fin cfg0.N)  :
    (show FVec Ideal S1x1 .f32 from iblk m c 2 t) (ix2 0 0) = argBu m c (ix1 0) := by
  show iblk m c 2 t (ix2 0 0) = _
  blk_simp [iblk]
  refine (congrFun (V_bu m c) _).trans ?_
  pointwise
  blk_ext [idx t]

/-- The block of the first layer at point `t` is expert `t % 8`'s. -/
theorem iblk3_at (c : Dev nD) (t : Fin cfg0.N) (k : Fin 1024) (f : Fin 4096) (j : Fin 8) (h : t.val % 8 = j.val) :
    (show FVec Ideal S1x1024x4096 .bf16 from iblk m c 3 t) (ix3 0 k f) = argW1 m c (ix3 j k f) := by
  show iblk m c 3 t (ix3 0 k f) = _
  blk_simp [iblk]
  refine (congrFun (V_w1 m c) _).trans ?_
  pointwise
  blk_ext [idx t]

/-- So is the block of the first offsets, -/
theorem iblk4_at (c : Dev nD) (t : Fin cfg0.N) (f : Fin 4096) (j : Fin 8) (h : t.val % 8 = j.val) :
    (show FVec Ideal S1x1x4096 .f32 from iblk m c 4 t) (ix3 0 0 f) = argB1 m c (ix2 j f) := by
  show iblk m c 4 t (ix3 0 0 f) = _
  blk_simp [iblk]
  refine (congrFun (V_b1 m c) _).trans ?_
  pointwise
  blk_ext [idx t]

/-- of the second layer, -/
theorem iblk5_at (c : Dev nD) (t : Fin cfg0.N) (f : Fin 4096) (d : Fin 1024) (j : Fin 8) (h : t.val % 8 = j.val) :
    (show FVec Ideal S1x4096x1024 .bf16 from iblk m c 5 t) (ix3 0 f d) = argW2 m c (ix3 j f d) := by
  show iblk m c 5 t (ix3 0 f d) = _
  blk_simp [iblk]
  refine (congrFun (V_w2 m c) _).trans ?_
  pointwise
  blk_ext [idx t]

/-- and of the second offsets. -/
theorem iblk6_at (c : Dev nD) (t : Fin cfg0.N) (d : Fin 1024) (j : Fin 8) (h : t.val % 8 = j.val) :
    (show FVec Ideal S1x1x1024 .f32 from iblk m c 6 t) (ix3 0 0 d) = argB2 m c (ix2 j d) := by
  show iblk m c 6 t (ix3 0 0 d) = _
  blk_simp [iblk]
  refine (congrFun (V_b2 m c) _).trans ?_
  pointwise
  blk_ext [idx t]

end Cert.KernelIdeal.Moe

end
-- ==== Proof.Payload.lean ====
module

public import proofs.«01_k».proof.Proof.Gen.KernelIdeal.Skeleton
public import proofs.«01_k».proof.Proof.Spec

@[expose] public section

set_option maxRecDepth 16384

noncomputable section

namespace Cert.KernelIdeal.Moe

open Idealize.ShloMosaic Idealize.ShloMosaic.TcCoe Idealize.SL.Sem
open Cert.KernelIdeal Cert.KernelIdeal.Gen

/-- The column the body takes from the scratch at grid point `(_, j)`: the scratch's column `j`. -/
theorem pay4_at (i : grid0.Coords) (v8 : FVec Ideal S512x8 .f32) (r : Fin 512) (j : Fin 8) (hj : (i 1).val = j.val) :
    k0_pay4 (F := Ideal) i v8 (ix2 r 0) = v8 (ix2 r j) := by
  pointwise [k0_pay4]
  rw [Finset.sum_eq_single j]
  · rw [hj, Cert.Moe.onehot_same, mul_one]
  · intro e _ he
    rw [hj, Cert.Moe.onehot_other e.val j.val e.isLt j.isLt (fun h => he (Fin.ext h)), mul_zero]
  · exact fun h => absurd (Finset.mem_univ _) h

/-- The second product at a row and a feature. -/
theorem pay5_at (i : grid0.Coords) (v8 : FVec Ideal S512x8 .f32) (v13 : FVec Ideal S512x1024 .bf16)
    (v15 : FVec Ideal S1x1024x4096 .bf16) (v18 : FVec Ideal S1x1x4096 .f32) (v27 : FVec Ideal S1x4096x1024 .bf16)
    (r : Fin 512) (d : Fin 1024) :
    k0_pay5 (F := Ideal) i v8 v13 v15 v18 v27 (ix2 r d)
      = ∑ f : Fin 4096, max (∑ k : Fin 1024, v13 (ix2 r k) * v15 (ix3 0 k f) + v18 (ix3 0 0 f)) 0
          * k0_pay4 (F := Ideal) i v8 (ix2 r 0) * v27 (ix3 0 f d) := by
  pointwise [k0_pay5]

/-- The weighted second offset at a row and a feature. -/
theorem pay6_at (i : grid0.Coords) (v8 : FVec Ideal S512x8 .f32) (v30 : FVec Ideal S1x1x1024 .f32)
    (r : Fin 512) (d : Fin 1024) :
    k0_pay6 (F := Ideal) i v8 v30 (ix2 r d) = k0_pay4 (F := Ideal) i v8 (ix2 r 0) * v30 (ix3 0 0 d) := by
  pointwise [k0_pay6]

/-- The weights the body writes into the scratch: row `r`, expert `e`. -/
theorem pay3_at (i : grid0.Coords) (v42 : FVec Ideal S512x1024 .bf16) (v44 : FVec Ideal S1024x1 .bf16) (v47 : FVec Ideal S1x1 .f32)
    (r : Fin 512) (e : Fin 8) (a : ℕ) (ha : a < 8) (hi : (i 0).val = a) :
    k0_pay3 (F := Ideal) i v42 v44 v47 (ix2 r e)
      = Cert.Moe.weight (Ideal.logistic (∑ k : Fin 1024, v42 (ix2 r k) * v44 (ix2 k 0) + v47 (ix2 0 0)))
          (Cert.Moe.turn e.val (a * 512 + r.val)) := by
  pointwise [k0_pay3]
  rw [hi, Cert.Moe.turn_word a r.val e.val ha r.isLt e.isLt]
  exact Cert.Moe.weight_select _ _ (Cert.Moe.turn_lt _ _)

end Cert.KernelIdeal.Moe

end
-- ==== Proof.Points.lean ====
module

public import proofs.«01_k».proof.Proof.Blocks
public import proofs.«01_k».proof.Proof.Payload

@[expose] public section

set_option maxRecDepth 16384

noncomputable section

/-! What the buffers hold after each grid point: the scratch carries the weights of the block's tokens, and the
output block gathers one expert per point. -/

namespace Cert.KernelIdeal.Moe

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- At the first point of a block of tokens the body fills the scratch with the weights, -/
theorem scr_A (c : Dev nD) (t : Fin cfg0.N) (h : t.val % 8 = 0) :
    (outsAt0 m c t.val t.isLt).2 = k0_pay3 (F := Ideal) (grid0.coords t) (iblk m c 0 t) (iblk m c 1 t) (iblk m c 2 t) := by
  rw [outsAt0_A m c t h h (by omega)]
  frame_out

/-- and at the others it leaves the scratch alone. -/
theorem scr_B (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h h (by omega)]
  dsimp only [sout0_B_0]

/-- The output block after the first point of a run: one expert's part, -/
theorem out_A (c : Dev nD) (t : Fin cfg0.N) (h : t.val % 8 = 0) :
    (outsAt0 m c t.val t.isLt).1 = k0_pay1 (F := Ideal)
      (k0_pay5 (grid0.coords t) (k0_pay3 (grid0.coords t) (iblk m c 0 t) (iblk m c 1 t) (iblk m c 2 t)) (iblk m c 0 t) (iblk m c 3 t) (iblk m c 4 t) (iblk m c 5 t))
      (k0_pay6 (grid0.coords t) (k0_pay3 (grid0.coords t) (iblk m c 0 t) (iblk m c 1 t) (iblk m c 2 t)) (iblk m c 6 t)) := by
  rw [outsAt0_A m c t h h (by omega)]
  frame_out

/-- and after every other point: what was there, plus one expert's part. -/
theorem out_B (c : Dev nD) (t : Fin cfg0.N) (h : ¬ t.val % 8 = 0) :
    (outsAt0 m c t.val t.isLt).1 = k0_pay2 (F := Ideal)
      (k0_pay5 (grid0.coords t) ((outsAt0 m c (t.val - 1) (Nat.lt_of_le_of_lt (Nat.sub_le _ _) t.isLt)).2) (iblk m c 0 t) (iblk m c 3 t) (iblk m c 4 t) (iblk m c 5 t))
      (k0_pay6 (grid0.coords t) ((outsAt0 m c (t.val - 1) (Nat.lt_of_le_of_lt (Nat.sub_le _ _) t.isLt)).2) (iblk m c 6 t))
      (outsAt0 m c (t.val - 1) (Nat.lt_of_le_of_lt (Nat.sub_le _ _) t.isLt)).1 := by
  rw [outsAt0_B m c t h h (by omega)]
  frame_out
  erw [Memref.IsWhole.read_unread]

/-- There are 64 points. -/
theorem lt_64 (t : Fin cfg0.N) : t.val < 64 := lt_of_lt_of_eq t.isLt N_0

/-- The sequence of row `r` of the block of tokens at point `t`, -/
def seqOf (t : Fin cfg0.N) (r : Fin 512) : Fin 2 := ⟨(t.val / 8 * 512 + r.val) / 2048, by have := lt_64 t; omega⟩
/-- its position in the sequence, -/
def posOf (t : Fin cfg0.N) (r : Fin 512) : Fin 2048 := ⟨(t.val / 8 * 512 + r.val) % 2048, Nat.mod_lt _ (by decide)⟩
/-- and the expert at point `t`. -/
def expOf (t : Fin cfg0.N) : Fin 8 := ⟨t.val % 8, Nat.mod_lt _ (by decide)⟩

/-- Sequence and position give back the row in the batch. -/
theorem row_eq (t : Fin cfg0.N) (r : Fin 512) :
    t.val / 8 * 512 + r.val = (seqOf t r).val * 2048 + (posOf t r).val := by
  show _ = (t.val / 8 * 512 + r.val) / 2048 * 2048 + (t.val / 8 * 512 + r.val) % 2048
  omega

/-- What the first point of a run puts into the scratch at row `r`, expert `e`. -/
theorem fill_at (c : Dev nD) (t : Fin cfg0.N) (r : Fin 512) (e : Fin 8) (p : Fin 2) (s : Fin 2048)
    (h : t.val / 8 * 512 + r.val = p.val * 2048 + s.val) :
    k0_pay3 (F := Ideal) (grid0.coords t) (iblk m c 0 t) (iblk m c 1 t) (iblk m c 2 t) (ix2 r e)
      = Cert.Moe.weight (Cert.Moe.uncert (argX m c) (argWu m c) (argBu m c) p s) (Cert.Moe.turn e.val s.val) := by
  refine (pay3_at (grid0.coords t) _ _ _ r e (t.val / 8) (by have := lt_64 t; omega) (coords t).1).trans ?_
  rw [h, Cert.Moe.turn_add]
  refine congrArg (fun z => Cert.Moe.weight (Ideal.logistic z) _) ?_
  refine congrArg₂ (· + ·) (Finset.sum_congr rfl fun k _ => ?_) (iblk2_at m c t)
  exact congrArg₂ (· * ·) (iblk0_at m c t r k p s h) (iblk1_at m c t k)

/-- The scratch after any point: the weights of the point's block of tokens. -/
theorem scr_at (c : Dev nD) : ∀ (n : ℕ) (hn : n < cfg0.N) (r : Fin 512) (e : Fin 8) (p : Fin 2) (s : Fin 2048),
    n / 8 * 512 + r.val = p.val * 2048 + s.val →
    (outsAt0 m c n hn).2 (ix2 r e)
      = Cert.Moe.weight (Cert.Moe.uncert (argX m c) (argWu m c) (argBu m c) p s) (Cert.Moe.turn e.val s.val) := by
  intro n
  induction n with
  | zero =>
    intro hn r e p s h
    rw [scr_A m c ⟨0, hn⟩ rfl]
    exact fill_at m c ⟨0, hn⟩ r e p s h
  | succ n ih =>
    intro hn r e p s h
    by_cases h0 : (n + 1) % 8 = 0
    · rw [scr_A m c ⟨n + 1, hn⟩ h0]
      exact fill_at m c ⟨n + 1, hn⟩ r e p s h
    · rw [scr_B m c ⟨n + 1, hn⟩ h0]
      exact ih (by omega) r e p s (by rw [← h]; congr 2; omega)

/-- One expert's part at a row and a feature, the body reading the right weight in the scratch. -/
theorem part_at (c : Dev nD) (t : Fin cfg0.N) (v8 : FVec Ideal S512x8 .f32) (r : Fin 512) (d : Fin 1024)
    (hv : v8 (ix2 r (expOf t)) = Cert.Moe.weight (Cert.Moe.uncert (argX m c) (argWu m c) (argBu m c) (seqOf t r) (posOf t r))
      (Cert.Moe.turn (expOf t).val (posOf t r).val)) :
    k0_pay1 (F := Ideal) (k0_pay5 (grid0.coords t) v8 (iblk m c 0 t) (iblk m c 3 t) (iblk m c 4 t) (iblk m c 5 t))
        (k0_pay6 (grid0.coords t) v8 (iblk m c 6 t)) (ix2 r d)
      = Cert.Moe.expert (argX m c) (argW1 m c) (argB1 m c) (argW2 m c) (argB2 m c) (expOf t) (seqOf t r) (posOf t r) d
        * Cert.Moe.weight (Cert.Moe.uncert (argX m c) (argWu m c) (argBu m c) (seqOf t r) (posOf t r))
          (Cert.Moe.turn (expOf t).val (posOf t r).val) := by
  obtain ⟨w, hw, e⟩ := Cert.Moe.weight_real (∑ k : Fin 1024, argX m c (ix3 (seqOf t r) (posOf t r) k) * argWu m c (ix2 k 0)
    + argBu m c (ix1 0)) (Cert.Moe.turn (expOf t).val (posOf t r).val)
  have e' : Cert.Moe.weight (Cert.Moe.uncert (argX m c) (argWu m c) (argBu m c) (seqOf t r) (posOf t r))
      (Cert.Moe.turn (expOf t).val (posOf t r).val) = (w : EReal) := e
  have hc : k0_pay4 (F := Ideal) (grid0.coords t) v8 (ix2 r 0) = (w : EReal) :=
    (pay4_at (grid0.coords t) v8 r (expOf t) (coords t).2).trans (hv.trans e')
  rw [e']
  refine Eq.trans ?_ (Cert.Moe.affine_mul_real _ _ _ hw)
  show k0_pay5 (F := Ideal) _ _ _ _ _ _ (ix2 r d) + k0_pay6 (F := Ideal) _ _ _ (ix2 r d) = _
  rw [pay5_at, pay6_at, hc]
  refine congrArg₂ (· + ·) (Finset.sum_congr rfl fun f _ => ?_) (congrArg _ (iblk6_at m c t d (expOf t) rfl))
  refine congrArg₂ (· * ·) (congrArg (· * (w : EReal)) (congrArg (max · 0) (congrArg₂ (· + ·) (Finset.sum_congr rfl fun k _ => ?_)
    (iblk4_at m c t f (expOf t) rfl)))) (iblk5_at m c t f d (expOf t) rfl)
  exact congrArg₂ (· * ·) (iblk0_at m c t r k _ _ (row_eq t r)) (iblk3_at m c t k f (expOf t) rfl)

/-- The part point `t` contributes at a block index. -/
def part (c : Dev nD) (t : Fin cfg0.N) (y : S512x1024.Idx) : EReal :=
  Cert.Moe.expert (argX m c) (argW1 m c) (argB1 m c) (argW2 m c) (argB2 m c) (expOf t) (seqOf t (y 0)) (posOf t (y 0)) (y 1)
    * Cert.Moe.weight (Cert.Moe.uncert (argX m c) (argWu m c) (argBu m c) (seqOf t (y 0)) (posOf t (y 0)))
      (Cert.Moe.turn (expOf t).val (posOf t (y 0)).val)

/-- At the first point of a run the output block is that point's part, -/
theorem step_A (c : Dev nD) (t : Fin cfg0.N) (h : t.val % 8 = 0) (y : S512x1024.Idx) :
    (outsAt0 m c t.val t.isLt).1 y = (0 : EReal) + part m c t y := by
  rw [out_A m c t h, zero_add]
  idx_vars y
  exact part_at m c t _ _ _ (fill_at m c t _ _ _ _ (row_eq t _))

/-- and at every other point it grows by that point's part. -/
theorem step_B (c : Dev nD) (t : Fin cfg0.N) (h : ¬ t.val % 8 = 0) (y : S512x1024.Idx) :
    (outsAt0 m c t.val t.isLt).1 y
      = (show EReal from (outsAt0 m c (t.val - 1) (Nat.lt_of_le_of_lt (Nat.sub_le _ _) t.isLt)).1 y) + part m c t y := by
  rw [out_B m c t h]
  idx_vars y
  have hp := part_at m c t ((outsAt0 m c (t.val - 1) (Nat.lt_of_le_of_lt (Nat.sub_le _ _) t.isLt)).2) y0 y1
    (scr_at m c (t.val - 1) _ _ _ _ _ (by rw [← row_eq]; congr 2; omega))
  refine Eq.trans ?_ (congrArg _ hp)
  pointwise [k0_pay2]

/-- The result array of the region: at row `q` the mixture at token `(q / 2048, q % 2048)`. -/
def rows (c : Dev nD) : FVec Ideal S4096x1024 .f32 := fun i =>
  Cert.Moe.mixture (argX m c) (argW1 m c) (argB1 m c) (argW2 m c) (argB2 m c) (argWu m c) (argBu m c)
    ⟨(i 0).val / 2048, by have h : (i 0).val < 4096 := (i 0).isLt; omega⟩ ⟨(i 0).val % 2048, Nat.mod_lt _ (by decide)⟩ (i 1)

/-- A point's part, from any names for its expert, sequence, position and feature. -/
theorem part_eq (c : Dev nD) (t : Fin cfg0.N) (y : S512x1024.Idx) (j : Fin 8) (p : Fin 2) (s : Fin 2048) (d : Fin 1024)
    (hj : t.val % 8 = j.val) (hp : (t.val / 8 * 512 + (y 0).val) / 2048 = p.val)
    (hs : (t.val / 8 * 512 + (y 0).val) % 2048 = s.val) (hd : (y 1).val = d.val) :
    part m c t y = Cert.Moe.expert (argX m c) (argW1 m c) (argB1 m c) (argW2 m c) (argB2 m c) j p s d
      * Cert.Moe.weight (Cert.Moe.uncert (argX m c) (argWu m c) (argBu m c) p s) (Cert.Moe.turn j.val s.val) := by
  obtain rfl : expOf t = j := Fin.ext hj
  obtain rfl : seqOf t (y 0) = p := Fin.ext hp
  obtain rfl : posOf t (y 0) = s := Fin.ext hs
  obtain rfl : (show Fin 1024 from y 1) = d := Fin.ext hd
  rfl

/-- Where the result's block sits at every point. -/
theorem idx7 : ∀ t : Fin cfg0.N, win0_7.index t = ![t.val / 8, 0] := by decide +kernel

/-- The row of the result an index of its block stands for, -/
theorem emb_row (t : Fin cfg0.N) (y : S512x1024.Idx) : ((win0_7.blk t).view.emb y 0).val = t.val / 8 * 512 + (y 0).val := by
  idx_vars y
  show (((win0_7.blk t).view.emb (ix2 y0 y1)) 0).val = _
  blk_simp
  rw [show win0_7.index t 0 = t.val / 8 from congrFun (idx7 t) 0]

/-- and the feature. -/
theorem emb_col (t : Fin cfg0.N) (y : S512x1024.Idx) : ((win0_7.blk t).view.emb y 1).val = (y 1).val := by
  idx_vars y
  show (((win0_7.blk t).view.emb (ix2 y0 y1)) 1).val = _
  blk_simp
  rw [show win0_7.index t 1 = 0 from congrFun (idx7 t) 1]
  omega

/-- The region's result array: every point's block is written once its eight parts are added up. -/
theorem final (c : Dev nD) : (dats m 0 c).arrAt 7 (cfgs 0).N = rows m c := by
  refine (dats m 0 c).arrAt_eq_of_covers 7 _ (by decide +kernel) fun t hf y => ?_
  blk_simp
  rw [after0_7, Pipeline.eq_sum_fin_of_reset_step_apply_of_flush (fun n h => (outsAt0 m c n h).1) 8 (fun _ => (0 : EReal)) (part m c)
    (step_A m c) (step_B m c) t ((flush0_7 t).mp hf) _, zero_add]
  refine Finset.sum_congr rfl fun s _ => part_eq m c _ y s _ _ _ ?_ ?_ ?_ ?_
  · show (8 * (t.val / 8) + s.val) % 8 = s.val
    omega
  · show ((8 * (t.val / 8) + s.val) / 8 * 512 + (y 0).val) / 2048 = ((win0_7.blk t).view.emb y 0).val / 2048
    rw [emb_row]
    congr 3; omega
  · show ((8 * (t.val / 8) + s.val) / 8 * 512 + (y 0).val) % 2048 = ((win0_7.blk t).view.emb y 0).val % 2048
    rw [emb_row]
    congr 3; omega
  · exact (emb_col t y).symm

end Cert.KernelIdeal.Moe

end
-- ==== Proof.Tail.lean ====
module

public import proofs.«01_k».proof.Proof.Points

@[expose] public section

set_option maxRecDepth 16384

noncomputable section

/-! The kernel's run: the region, then the reshape of its result. -/

namespace Cert.KernelIdeal.Moe

open Idealize.ShloMosaic Idealize.ShloMosaic.TcCoe Idealize.SL.Sem Cert.KernelIdeal.Gen

variable (m : (ℓ : Loc nD τ sig) → Buf (Elt Ideal) ℓ) (ρ : Dev nD → PrngReg)

/-- The result: the mixture, at every sequence, position and feature. -/
def result (c : Dev nD) : FVec Ideal S2x2048x1024 .f32 := fun i =>
  Cert.Moe.mixture (argX m c) (argW1 m c) (argB1 m c) (argW2 m c) (argB2 m c) (argWu m c) (argBu m c) (i 0) (i 1) (i 2)

/-- The reshape after the region splits the row into sequence and position. -/
theorem split (c : Dev nD) : shapeCast S2x2048x1024 (rows m c) shapeCasts_S4096x1024_S2x2048x1024 = result m c := by
  funext i
  idx_vars i
  pointwise [rows, result]
  congr 1 <;> apply Fin.ext <;> show _ = _ <;> simp only [] <;> omega

/-- What the program leaves in its result buffer after the reshape. -/
theorem tail (c : Dev nD) : Pipeline.afterTail₀ cfgs (dats m) 0 (V0 m) [hostOps1] c main_v0 = result m c := by
  unfold Pipeline.afterTail₀
  simp only [hostOps1, List.flatten_cons, List.flatten_nil, List.append_nil, StableHlo.TRef.reshape, StableHlo.TRef.unary, StableHlo.TRef.toBuf, StableHlo.TRef.ofBuf, cast_eq]
  after_results
  refine Eq.trans ?_ (split m c)
  have e : Pipeline.withArrays (cfgs 0).spec c (V0 m c) (fun w => (dats m 0 c).arrAt w (cfgs 0).N) (Proc.devRef .tc main_call0_v8) = rows m c :=
    (Pipeline.withArrays_arr (cfgs 0).spec launch0.win.arr_inj c (V0 m c) _ 7).trans (final m c)
  exact congrArg (fun z => shapeCast S2x2048x1024 z shapeCasts_S4096x1024_S2x2048x1024) e

/-- Every run of the kernel ends with the mixture in its result and its arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v0 (by decide +kernel)).trans (tail m c), h.2 c⟩)
    (θ_run_and (run_main m ρ) (unchanged m ρ))

end Cert.KernelIdeal.Moe

end

end
-- ==== Proof.RefStage.lean ====
module

public import proofs.«01_k».proof.Proof.Gen.ReferenceIdeal
public import proofs.«01_k».proof.Proof.Spec

@[expose] public section

set_option maxRecDepth 16384

noncomputable section

/-! One stage of the reference, written once for every turn: which expert each position takes, and what the stage
adds to the running result. -/

namespace Cert.ReferenceIdeal.Moe

open Idealize.ShloMosaic Idealize.ShloMosaic.TcCoe
open Cert.ReferenceIdeal Cert.ReferenceIdeal.Gen

/-- The divisor of the remainder: 8, or 1 if it were zero. -/
def eight : IVec S_ 32 :=
  select (cmpi .eq (id (constantI S_ 32 8#32)) (constantI S_ 32 0#32)) (constantI S_ 32 1#32) (id (constantI S_ 32 8#32))

/-- The remainder with the dividend's sign, of every position shifted by the turn. -/
def rawWord (i : BitVec 32) : IVec S1x2048 32 :=
  Host.remsi (subi (addi (broadcastInDim S1x2048 ![1] bcast_S2048_S1x2048_1 (iotaInDim S2048 32 0)) (broadcastInDim S1x2048 ![] bcast_S_S1x2048 (constantI S_ 32 i))) (broadcastInDim S1x2048 ![] bcast_S_S1x2048 (constantI S_ 32 1#32))) (broadcastInDim S1x2048 ![] bcast_S_S1x2048 eight)

/-- The expert each position takes at turn `i`: the remainder with the divisor's sign. -/
def takeWord (i : BitVec 32) : IVec S1x2048 32 :=
  select (andi (cmpi .ne (cmpi .slt (rawWord i) (broadcastInDim S1x2048 ![] bcast_S_S1x2048 (constantI S_ 32 0#32))) (broadcastInDim S1x2048 ![] bcast_S_S1x2048 (cmpi .slt eight (constantI S_ 32 0#32)))) (cmpi .ne (rawWord i) (broadcastInDim S1x2048 ![] bcast_S_S1x2048 (constantI S_ 32 0#32)))) (addi (rawWord i) (broadcastInDim S1x2048 ![] bcast_S_S1x2048 eight)) (rawWord i)

/-- What a stage adds for expert `j`: the expert's value over the turn's share of the uncertainty, where the position takes it. -/
def piece (U : FVec Ideal S2x2048 .f32) (N : IVec S2x2048 32) (i : BitVec 32) (b : BitVec 32) (j : BitVec 32)
    (E : FVec Ideal S2x2048x1024 .f32) : FVec Ideal S2x2048x1024 .f32 :=
  select (broadcastInDim S2x2048x1024 ![0, 1, 2] bcast_S2x2048x1_S2x2048x1024_0_1_2 (broadcastInDim S2x2048x1 ![0, 1] bcast_S2x2048_S2x2048x1_0_1 (andi (cmpi .sge N (broadcastInDim S2x2048 ![] bcast_S_S2x2048 (constantI S_ 32 i))) (broadcastInDim S2x2048 ![0, 1] bcast_S1x2048_S2x2048_0_1 (cmpi .eq (takeWord i) (broadcastInDim S1x2048 ![] bcast_S_S1x2048 (constantI S_ 32 j))))))) (mulf E (broadcastInDim S2x2048x1024 ![0, 1, 2] bcast_S2x2048x1_S2x2048x1024_0_1_2 (broadcastInDim S2x2048x1 ![0, 1] bcast_S2x2048_S2x2048x1_0_1 (Host.divf U (broadcastInDim S2x2048 ![] bcast_S_S2x2048 (constant S_ .f32 b)))))) (broadcastInDim S2x2048x1024 ![] bcast_S_S2x2048x1024 (id (constant S_ .f32 0x00000000#32)))

/-- The divisor is 8. -/
theorem eight_at : eight ix0 = 8#32 := by decide

/-- Position `s` takes expert `(s + κ) mod 8` at the turn numbered `κ + 1`. -/
theorem takeWord_at (κ : ℕ) (hκ : κ < 8) (s : Fin 2048) :
    takeWord (BitVec.ofNat 32 (κ + 1)) (ix2 0 s) = BitVec.ofNat 32 ((s.val + κ) % 8) := by
  have hx : IntOp.subi (IntOp.addi (BitVec.ofNat 32 s.val) (BitVec.ofNat 32 (κ + 1))) 1#32 = BitVec.ofNat 32 (s.val + κ) := by
    apply BitVec.eq_of_toNat_eq
    show (BitVec.ofNat 32 s.val + BitVec.ofNat 32 (κ + 1) - 1#32).toNat = _
    have := s.isLt
    rw [BitVec.toNat_sub, BitVec.toNat_add]
    simp only [BitVec.toNat_ofNat]
    omega
  have hr : rawWord (BitVec.ofNat 32 (κ + 1)) (ix2 0 s) = BitVec.ofNat 32 ((s.val + κ) % 8) := by
    have e : rawWord (BitVec.ofNat 32 (κ + 1)) (ix2 0 s)
        = IntOp.remsi .host (IntOp.subi (IntOp.addi (BitVec.ofNat 32 s.val) (BitVec.ofNat 32 (κ + 1))) 1#32) (eight ix0) := by
      pointwise [rawWord]
    rw [e, eight_at, hx]
    have hn : (BitVec.ofNat 32 (s.val + κ)).toNat = s.val + κ := by
      rw [BitVec.toNat_ofNat]; have := s.isLt; omega
    apply BitVec.eq_of_toNat_eq
    rw [show (8#32 : BitVec 32) = BitVec.ofNat 32 8 from rfl, IntOp.toNat_remsi .host (by rw [hn]; have := s.isLt; omega) 8 (by decide) (by decide), hn, BitVec.toNat_ofNat]
    omega
  have e : takeWord (BitVec.ofNat 32 (κ + 1)) (ix2 0 s)
      = Scalar.select (IntOp.andi (IntOp.cmpi .ne (IntOp.cmpi .slt (rawWord (BitVec.ofNat 32 (κ + 1)) (ix2 0 s)) 0#32) (IntOp.cmpi .slt (eight ix0) 0#32))
          (IntOp.cmpi .ne (rawWord (BitVec.ofNat 32 (κ + 1)) (ix2 0 s)) 0#32))
          (IntOp.addi (rawWord (BitVec.ofNat 32 (κ + 1)) (ix2 0 s)) (eight ix0)) (rawWord (BitVec.ofNat 32 (κ + 1)) (ix2 0 s)) := by
    pointwise [takeWord]
  rw [e, hr, eight_at]
  have hk : (s.val + κ) % 8 < 8 := Nat.mod_lt _ (by decide)
  generalize (s.val + κ) % 8 = k at hk ⊢
  revert k
  decide

/-- The expert taken at turn `κ` is `j` exactly when `j`'s turn is `κ`. -/
theorem take_iff (κ j s : ℕ) (hκ : κ < 8) (hj : j < 8) : (s + κ) % 8 = j ↔ Cert.Moe.turn j s = κ := by
  unfold Cert.Moe.turn
  omega

/-- A piece at an index: the expert's value times the weight of the turn if it is the expert's turn, and 0 otherwise. -/
theorem piece_at (U : FVec Ideal S2x2048 .f32) (N : IVec S2x2048 32) (κ j : ℕ) (hκ : κ < 8) (hj : j < 8) (b : BitVec 32)
    (hb : Ideal.ofBits .f32 b = (((κ : ℝ) + 1 : ℝ) : EReal))
    (E : FVec Ideal S2x2048x1024 .f32) (p : Fin 2) (s : Fin 2048) (d : Fin 1024)
    (hN : N (ix2 p s) = Cert.Moe.count (U (ix2 p s))) :
    piece U N (BitVec.ofNat 32 (κ + 1)) b (BitVec.ofNat 32 j) E (ix3 p s d)
      = if Cert.Moe.turn j s.val = κ then E (ix3 p s d) * Cert.Moe.weight (U (ix2 p s)) κ else (0 : EReal) := by
  have e : piece U N (BitVec.ofNat 32 (κ + 1)) b (BitVec.ofNat 32 j) E (ix3 p s d)
      = Scalar.select (IntOp.andi (IntOp.cmpi .sge (N (ix2 p s)) (BitVec.ofNat 32 (κ + 1)))
          (IntOp.cmpi .eq (takeWord (BitVec.ofNat 32 (κ + 1)) (ix2 0 s)) (BitVec.ofNat 32 j)))
          (E (ix3 p s d) * Ideal.div (U (ix2 p s)) (Ideal.ofBits FTy.f32 b)) (0 : EReal) := by
    pointwise [piece]
    exact congrArg _ Ideal.ofBits_zero_f32
  rw [e, hN, takeWord_at κ hκ, hb]
  have hq : IntOp.andi (IntOp.cmpi .sge (Cert.Moe.count (U (ix2 p s))) (BitVec.ofNat 32 (κ + 1)))
      (IntOp.cmpi .eq (BitVec.ofNat 32 ((s.val + κ) % 8)) (BitVec.ofNat 32 j)) = 1#1
      ↔ (κ : ℤ) < (Cert.Moe.count (U (ix2 p s))).toInt ∧ Cert.Moe.turn j s.val = κ := by
    rw [IntOp.andi_eq_one, IntOp.cmpi_sge, IntOp.cmpi_eq, Cert.Moe.toInt_small _ (by omega), ← take_iff κ j s.val hκ hj]
    refine and_congr (by push_cast; exact Int.add_one_le_iff) ⟨fun h => ?_, fun h => congrArg _ h⟩
    have := congrArg BitVec.toNat h
    simp only [BitVec.toNat_ofNat] at this
    omega
  unfold Cert.Moe.weight
  by_cases ht : Cert.Moe.turn j s.val = κ
  · rw [if_pos ht]
    by_cases hc : (κ : ℤ) < (Cert.Moe.count (U (ix2 p s))).toInt
    · rw [if_pos hc, hq.mpr ⟨hc, ht⟩]; rfl
    · rw [if_neg hc, mul_zero]
      exact Cert.Moe.select_of_ne _ _ fun h => hc (hq.mp h).1
  · rw [if_neg ht]
    exact Cert.Moe.select_of_ne _ _ fun h => ht (hq.mp h).2

/-- A stage: the eight pieces added one after another to what was there. -/
def stage (A : FVec Ideal S2x2048x1024 .f32) (U : FVec Ideal S2x2048 .f32) (N : IVec S2x2048 32) (i : BitVec 32) (b : BitVec 32)
    (E0 E1 E2 E3 E4 E5 E6 E7 : FVec Ideal S2x2048x1024 .f32) : FVec Ideal S2x2048x1024 .f32 :=
  addf (addf (addf (addf (addf (addf (addf (addf A (piece U N i b 0#32 E0)) (piece U N i b 1#32 E1)) (piece U N i b 2#32 E2)) (piece U N i b 3#32 E3)) (piece U N i b 4#32 E4)) (piece U N i b 5#32 E5)) (piece U N i b 6#32 E6)) (piece U N i b 7#32 E7)

/-- The stage at an index. -/
theorem stage_at (A : FVec Ideal S2x2048x1024 .f32) (U : FVec Ideal S2x2048 .f32) (N : IVec S2x2048 32) (κ : ℕ) (hκ : κ < 8) (b : BitVec 32)
    (hb : Ideal.ofBits .f32 b = (((κ : ℝ) + 1 : ℝ) : EReal)) (E : Fin 8 → FVec Ideal S2x2048x1024 .f32) (p : Fin 2) (s : Fin 2048) (d : Fin 1024)
    (hN : N (ix2 p s) = Cert.Moe.count (U (ix2 p s))) :
    stage A U N (BitVec.ofNat 32 (κ + 1)) b (E 0) (E 1) (E 2) (E 3) (E 4) (E 5) (E 6) (E 7) (ix3 p s d)
      = (show EReal from A (ix3 p s d)) + ∑ j : Fin 8, if Cert.Moe.turn j.val s.val = κ then E j (ix3 p s d) * Cert.Moe.weight (U (ix2 p s)) κ else (0 : EReal) := by
  have h : ∀ j : Fin 8, _ := fun j => piece_at U N κ j.val hκ j.isLt b hb (E j) p s d hN
  rw [Fin.sum_univ_eight, ← h 0, ← h 1, ← h 2, ← h 3, ← h 4, ← h 5, ← h 6, ← h 7]
  simp only [← add_assoc]
  rfl

/-- Expert `j` over all tokens. -/
def expertV (X : FVec Ideal S2x2048x1024 .f32) (W1 : FVec Ideal S8x1024x4096 .f32) (B1 : FVec Ideal S8x4096 .f32)
    (W2 : FVec Ideal S8x4096x1024 .f32) (B2 : FVec Ideal S8x1024 .f32) (j : ℕ)
    (h1 : S8x1024x4096.Slices ![j, 0, 0] S1x1024x4096) (h2 : S8x4096.Slices ![j, 0] S1x4096)
    (h3 : S8x4096x1024.Slices ![j, 0, 0] S1x4096x1024) (h4 : S8x1024.Slices ![j, 0] S1x1024) : FVec Ideal S2x2048x1024 .f32 :=
  addf (Host.dotGeneral dot_S2x2048x4096_S4096x1024_S2x2048x1024_2_0_01_1_n_n none (maximumf (addf (Host.dotGeneral dot_S2x2048x1024_S1024x4096_S2x2048x4096_2_0_01_1_n_n none X (shapeCast _ (extractStridedSlice S1x1024x4096 ![j, 0, 0] W1 h1) shapeCasts_S1x1024x4096_S1024x4096)) (broadcastInDim S2x2048x4096 ![0, 1, 2] bcast_S1x1x4096_S2x2048x4096_0_1_2 (broadcastInDim S1x1x4096 ![2] bcast_S4096_S1x1x4096_2 (shapeCast _ (extractStridedSlice S1x4096 ![j, 0] B1 h2) shapeCasts_S1x4096_S4096)))) (broadcastInDim S2x2048x4096 ![] bcast_S_S2x2048x4096 (constant S_ .f32 0x00000000#32))) (shapeCast _ (extractStridedSlice S1x4096x1024 ![j, 0, 0] W2 h3) shapeCasts_S1x4096x1024_S4096x1024)) (broadcastInDim S2x2048x1024 ![0, 1, 2] bcast_S1x1x1024_S2x2048x1024_0_1_2 (broadcastInDim S1x1x1024 ![2] bcast_S1024_S1x1x1024_2 (shapeCast _ (extractStridedSlice S1x1024 ![j, 0] B2 h4) shapeCasts_S1x1024_S1024)))

/-- At an index it is the expert of the mixture. -/
theorem expertV_at (X : FVec Ideal S2x2048x1024 .f32) (W1 : FVec Ideal S8x1024x4096 .f32) (B1 : FVec Ideal S8x4096 .f32)
    (W2 : FVec Ideal S8x4096x1024 .f32) (B2 : FVec Ideal S8x1024 .f32) (j : Fin 8)
    (h1 : S8x1024x4096.Slices ![j.val, 0, 0] S1x1024x4096) (h2 : S8x4096.Slices ![j.val, 0] S1x4096)
    (h3 : S8x4096x1024.Slices ![j.val, 0, 0] S1x4096x1024) (h4 : S8x1024.Slices ![j.val, 0] S1x1024) (p : Fin 2) (s : Fin 2048) (d : Fin 1024) :
    expertV X W1 B1 W2 B2 j.val h1 h2 h3 h4 (ix3 p s d) = Cert.Moe.expert X W1 B1 W2 B2 j p s d := by
  pointwise [expertV, Cert.Moe.expert]

/-- The uncertainties. -/
def uncertV (X : FVec Ideal S2x2048x1024 .f32) (Wu : FVec Ideal S1024x1 .f32) (Bu : FVec Ideal S1 .f32) : FVec Ideal S2x2048 .f32 :=
  Host.divf (broadcastInDim S2x2048 ![] bcast_S_S2x2048 (constant S_ .f32 0x3F800000#32)) (addf (broadcastInDim S2x2048 ![] bcast_S_S2x2048 (constant S_ .f32 0x3F800000#32)) (Host.exp (Host.negf (shapeCast _ (addf (Host.dotGeneral dot_S2x2048x1024_S1024x1_S2x2048x1_2_0_01_1_n_n none X Wu) (broadcastInDim S2x2048x1 ![0, 1, 2] bcast_S1x1x1_S2x2048x1_0_1_2 (broadcastInDim S1x1x1 ![2] bcast_S1_S1x1x1_2 Bu))) shapeCasts_S2x2048x1_S2x2048))))

/-- At an index: the logistic of the linear form. -/
theorem uncertV_at (X : FVec Ideal S2x2048x1024 .f32) (Wu : FVec Ideal S1024x1 .f32) (Bu : FVec Ideal S1 .f32) (p : Fin 2) (s : Fin 2048) :
    uncertV X Wu Bu (ix2 p s) = Cert.Moe.uncert X Wu Bu p s := by
  pointwise [uncertV]
  rfl

/-- The counts. -/
def countV (U : FVec Ideal S2x2048 .f32) : IVec S2x2048 32 :=
  fptosi 32 (minimumf (broadcastInDim S2x2048 ![] bcast_S_S2x2048 (sitofp .f32 (constantI S_ 32 8#32))) (maximumf (broadcastInDim S2x2048 ![] bcast_S_S2x2048 (sitofp .f32 (constantI S_ 32 1#32))) (Host.ceil (mulf U (broadcastInDim S2x2048 ![] bcast_S_S2x2048 (constant S_ .f32 0x41000000#32))))))

/-- At an index: the count of that uncertainty. -/
theorem countV_at (U : FVec Ideal S2x2048 .f32) (p : Fin 2) (s : Fin 2048) : countV U (ix2 p s) = Cert.Moe.count (U (ix2 p s)) := by
  pointwise [countV, Cert.Moe.count]
  rfl

/-- All eight stages from zero: what the reference computes, from its experts, uncertainties and counts. -/
def stages (U : FVec Ideal S2x2048 .f32) (N : IVec S2x2048 32) (E : Fin 8 → FVec Ideal S2x2048x1024 .f32) : FVec Ideal S2x2048x1024 .f32 :=
  stage (stage (stage (stage (stage (stage (stage (stage (broadcastInDim S2x2048x1024 ![] bcast_S_S2x2048x1024 (constant S_ .f32 0x00000000#32))
    U N 1#32 0x3F800000#32 (E 0) (E 1) (E 2) (E 3) (E 4) (E 5) (E 6) (E 7))
    U N 2#32 0x40000000#32 (E 0) (E 1) (E 2) (E 3) (E 4) (E 5) (E 6) (E 7))
    U N 3#32 0x40400000#32 (E 0) (E 1) (E 2) (E 3) (E 4) (E 5) (E 6) (E 7))
    U N 4#32 0x40800000#32 (E 0) (E 1) (E 2) (E 3) (E 4) (E 5) (E 6) (E 7))
    U N 5#32 0x40A00000#32 (E 0) (E 1) (E 2) (E 3) (E 4) (E 5) (E 6) (E 7))
    U N 6#32 0x40C00000#32 (E 0) (E 1) (E 2) (E 3) (E 4) (E 5) (E 6) (E 7))
    U N 7#32 0x40E00000#32 (E 0) (E 1) (E 2) (E 3) (E 4) (E 5) (E 6) (E 7))
    U N 8#32 0x41000000#32 (E 0) (E 1) (E 2) (E 3) (E 4) (E 5) (E 6) (E 7)

/-- Every expert has its turn once, so the stages sum to the experts times the weights of their turns. -/
theorem stages_at (U : FVec Ideal S2x2048 .f32) (N : IVec S2x2048 32) (E : Fin 8 → FVec Ideal S2x2048x1024 .f32)
    (p : Fin 2) (s : Fin 2048) (d : Fin 1024) (hN : N (ix2 p s) = Cert.Moe.count (U (ix2 p s))) :
    stages U N E (ix3 p s d) = ∑ j : Fin 8, E j (ix3 p s d) * Cert.Moe.weight (U (ix2 p s)) (Cert.Moe.turn j.val s.val) := by
  have b1 : Ideal.ofBits .f32 0x3F800000#32 = ((((0 : ℕ) : ℝ) + 1 : ℝ) : EReal) := by simp
  have b2 : Ideal.ofBits .f32 0x40000000#32 = ((((1 : ℕ) : ℝ) + 1 : ℝ) : EReal) := by simp [Ideal.ofBits, Ideal.ieee, -EReal.coe_mul, -EReal.coe_add]; norm_num
  have b3 : Ideal.ofBits .f32 0x40400000#32 = ((((2 : ℕ) : ℝ) + 1 : ℝ) : EReal) := by simp [Ideal.ofBits, Ideal.ieee, -EReal.coe_mul, -EReal.coe_add]; norm_num
  have b4 : Ideal.ofBits .f32 0x40800000#32 = ((((3 : ℕ) : ℝ) + 1 : ℝ) : EReal) := by simp [Ideal.ofBits, Ideal.ieee, -EReal.coe_mul, -EReal.coe_add]; norm_num
  have b5 : Ideal.ofBits .f32 0x40A00000#32 = ((((4 : ℕ) : ℝ) + 1 : ℝ) : EReal) := by simp [Ideal.ofBits, Ideal.ieee, -EReal.coe_mul, -EReal.coe_add]; norm_num
  have b6 : Ideal.ofBits .f32 0x40C00000#32 = ((((5 : ℕ) : ℝ) + 1 : ℝ) : EReal) := by simp [Ideal.ofBits, Ideal.ieee, -EReal.coe_mul, -EReal.coe_add]; norm_num
  have b7 : Ideal.ofBits .f32 0x40E00000#32 = ((((6 : ℕ) : ℝ) + 1 : ℝ) : EReal) := by simp [Ideal.ofBits, Ideal.ieee, -EReal.coe_mul, -EReal.coe_add]; norm_num
  have b8 : Ideal.ofBits .f32 0x41000000#32 = ((((7 : ℕ) : ℝ) + 1 : ℝ) : EReal) := by simp [Ideal.ofBits, Ideal.ieee, -EReal.coe_mul, -EReal.coe_add]; norm_num
  have z : (broadcastInDim S2x2048x1024 ![] bcast_S_S2x2048x1024 (constant (F := Ideal) S_ .f32 0x00000000#32) (ix3 p s d) : EReal) = 0 := Ideal.ofBits_zero_f32
  unfold stages
  rw [stage_at _ U N 7 (by decide) _ b8 E p s d hN, stage_at _ U N 6 (by decide) _ b7 E p s d hN, stage_at _ U N 5 (by decide) _ b6 E p s d hN,
    stage_at _ U N 4 (by decide) _ b5 E p s d hN, stage_at _ U N 3 (by decide) _ b4 E p s d hN, stage_at _ U N 2 (by decide) _ b3 E p s d hN,
    stage_at _ U N 1 (by decide) _ b2 E p s d hN, stage_at _ U N 0 (by decide) _ b1 E p s d hN, z, zero_add]
  have e : ∀ f : ℕ → EReal, f 0 + f 1 + f 2 + f 3 + f 4 + f 5 + f 6 + f 7 = ∑ κ : Fin 8, f κ.val := fun f => by rw [Fin.sum_univ_eight]; rfl
  refine (e fun κ => ∑ j : Fin 8, if Cert.Moe.turn j.val s.val = κ then E j (ix3 p s d) * Cert.Moe.weight (U (ix2 p s)) κ else (0 : EReal)).trans ?_
  rw [Finset.sum_comm]
  refine Finset.sum_congr rfl fun j _ => ?_
  rw [Finset.sum_eq_single (⟨Cert.Moe.turn j.val s.val, Cert.Moe.turn_lt _ _⟩ : Fin 8)]
  · exact if_pos rfl
  · exact fun κ _ h => if_neg fun h' => h (Fin.ext h'.symm)
  · exact fun h => absurd (Finset.mem_univ _) h

end Cert.ReferenceIdeal.Moe

end
-- ==== Proof.RefRun.lean ====
module

public import proofs.«01_k».proof.Proof.Gen.ReferenceIdeal.Run
public import proofs.«01_k».proof.Proof.RefStage

@[expose] public section

set_option maxRecDepth 16384

noncomputable section

/-! The reference's result is the eight stages over the eight experts, and so the mixture. -/

namespace Cert.ReferenceIdeal.Moe

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-! The arguments. -/

/-- The tokens. -/
abbrev inX : FVec Ideal S2x2048x1024 .f32 := V0 (Proc.devRef .tc main_arg0)
/-- The first layers. -/
abbrev inW1 : FVec Ideal S8x1024x4096 .f32 := V0 (Proc.devRef .tc main_arg1)
/-- The first offsets. -/
abbrev inB1 : FVec Ideal S8x4096 .f32 := V0 (Proc.devRef .tc main_arg2)
/-- The second layers. -/
abbrev inW2 : FVec Ideal S8x4096x1024 .f32 := V0 (Proc.devRef .tc main_arg3)
/-- The second offsets. -/
abbrev inB2 : FVec Ideal S8x1024 .f32 := V0 (Proc.devRef .tc main_arg4)
/-- The uncertainty weights. -/
abbrev inWu : FVec Ideal S1024x1 .f32 := V0 (Proc.devRef .tc main_arg5)
/-- The uncertainty offset. -/
abbrev inBu : FVec Ideal S1 .f32 := V0 (Proc.devRef .tc main_arg6)

/-- The reference's experts, in order. -/
def experts : Fin 8 → FVec Ideal S2x2048x1024 .f32 :=
  ![res_main_v33 V0, res_main_v50 V0, res_main_v67 V0, res_main_v84 V0, res_main_v101 V0, res_main_v118 V0, res_main_v135 V0, res_main_v152 V0]

/-- Expert 0 of the run. -/
theorem expert0 : res_main_v33 V0 = expertV (inX V0) (inW1 V0) (inB1 V0) (inW2 V0) (inB2 V0) 0 slices_S8x1024x4096_S1x1024x4096_0_0_0
    slices_S8x4096_S1x4096_0_0 slices_S8x4096x1024_S1x4096x1024_0_0_0 slices_S8x1024_S1x1024_0_0 := rfl

/-- Expert 1 of the run. -/
theorem expert1 : res_main_v50 V0 = expertV (inX V0) (inW1 V0) (inB1 V0) (inW2 V0) (inB2 V0) 1 slices_S8x1024x4096_S1x1024x4096_1_0_0
    slices_S8x4096_S1x4096_1_0 slices_S8x4096x1024_S1x4096x1024_1_0_0 slices_S8x1024_S1x1024_1_0 := rfl

/-- Expert 2 of the run. -/
theorem expert2 : res_main_v67 V0 = expertV (inX V0) (inW1 V0) (inB1 V0) (inW2 V0) (inB2 V0) 2 slices_S8x1024x4096_S1x1024x4096_2_0_0
    slices_S8x4096_S1x4096_2_0 slices_S8x4096x1024_S1x4096x1024_2_0_0 slices_S8x1024_S1x1024_2_0 := rfl

/-- Expert 3 of the run. -/
theorem expert3 : res_main_v84 V0 = expertV (inX V0) (inW1 V0) (inB1 V0) (inW2 V0) (inB2 V0) 3 slices_S8x1024x4096_S1x1024x4096_3_0_0
    slices_S8x4096_S1x4096_3_0 slices_S8x4096x1024_S1x4096x1024_3_0_0 slices_S8x1024_S1x1024_3_0 := rfl

/-- Expert 4 of the run. -/
theorem expert4 : res_main_v101 V0 = expertV (inX V0) (inW1 V0) (inB1 V0) (inW2 V0) (inB2 V0) 4 slices_S8x1024x4096_S1x1024x4096_4_0_0
    slices_S8x4096_S1x4096_4_0 slices_S8x4096x1024_S1x4096x1024_4_0_0 slices_S8x1024_S1x1024_4_0 := rfl

/-- Expert 5 of the run. -/
theorem expert5 : res_main_v118 V0 = expertV (inX V0) (inW1 V0) (inB1 V0) (inW2 V0) (inB2 V0) 5 slices_S8x1024x4096_S1x1024x4096_5_0_0
    slices_S8x4096_S1x4096_5_0 slices_S8x4096x1024_S1x4096x1024_5_0_0 slices_S8x1024_S1x1024_5_0 := rfl

/-- Expert 6 of the run. -/
theorem expert6 : res_main_v135 V0 = expertV (inX V0) (inW1 V0) (inB1 V0) (inW2 V0) (inB2 V0) 6 slices_S8x1024x4096_S1x1024x4096_6_0_0
    slices_S8x4096_S1x4096_6_0 slices_S8x4096x1024_S1x4096x1024_6_0_0 slices_S8x1024_S1x1024_6_0 := rfl

/-- Expert 7 of the run. -/
theorem expert7 : res_main_v152 V0 = expertV (inX V0) (inW1 V0) (inB1 V0) (inW2 V0) (inB2 V0) 7 slices_S8x1024x4096_S1x1024x4096_7_0_0
    slices_S8x4096_S1x4096_7_0 slices_S8x4096x1024_S1x4096x1024_7_0_0 slices_S8x1024_S1x1024_7_0 := rfl

/-- Each expert at an index. -/
theorem experts_at (j : Fin 8) (p : Fin 2) (s : Fin 2048) (d : Fin 1024) :
    experts V0 j (ix3 p s d) = Cert.Moe.expert (inX V0) (inW1 V0) (inB1 V0) (inW2 V0) (inB2 V0) j p s d := by
  fin_cases j
  · exact (congrFun (expert0 V0) _).trans (expertV_at _ _ _ _ _ (0 : Fin 8) _ _ _ _ p s d)
  · exact (congrFun (expert1 V0) _).trans (expertV_at _ _ _ _ _ (1 : Fin 8) _ _ _ _ p s d)
  · exact (congrFun (expert2 V0) _).trans (expertV_at _ _ _ _ _ (2 : Fin 8) _ _ _ _ p s d)
  · exact (congrFun (expert3 V0) _).trans (expertV_at _ _ _ _ _ (3 : Fin 8) _ _ _ _ p s d)
  · exact (congrFun (expert4 V0) _).trans (expertV_at _ _ _ _ _ (4 : Fin 8) _ _ _ _ p s d)
  · exact (congrFun (expert5 V0) _).trans (expertV_at _ _ _ _ _ (5 : Fin 8) _ _ _ _ p s d)
  · exact (congrFun (expert6 V0) _).trans (expertV_at _ _ _ _ _ (6 : Fin 8) _ _ _ _ p s d)
  · exact (congrFun (expert7 V0) _).trans (expertV_at _ _ _ _ _ (7 : Fin 8) _ _ _ _ p s d)

/-- The uncertainties of the run. -/
theorem uncerts : res_main_v10 V0 = uncertV (inX V0) (inWu V0) (inBu V0) := rfl

/-- The counts of the run. -/
theorem counts : res_main_v15 V0 = countV (res_main_v10 V0) := rfl

/-! Each running result is a stage over the one before it. -/

/-- The running result after stage 1. -/
theorem stage1 : res_main_v236 V0 = stage (broadcastInDim S2x2048x1024 ![] bcast_S_S2x2048x1024 (constant S_ .f32 0x00000000#32)) (res_main_v10 V0) (res_main_v15 V0) 1#32 0x3F800000#32
    (experts V0 0) (experts V0 1) (experts V0 2) (experts V0 3) (experts V0 4) (experts V0 5) (experts V0 6) (experts V0 7) := rfl

/-- The running result after stage 2. -/
theorem stage2 : res_main_v319 V0 = stage (res_main_v236 V0) (res_main_v10 V0) (res_main_v15 V0) 2#32 0x40000000#32
    (experts V0 0) (experts V0 1) (experts V0 2) (experts V0 3) (experts V0 4) (experts V0 5) (experts V0 6) (experts V0 7) := rfl

/-- The running result after stage 3. -/
theorem stage3 : res_main_v402 V0 = stage (res_main_v319 V0) (res_main_v10 V0) (res_main_v15 V0) 3#32 0x40400000#32
    (experts V0 0) (experts V0 1) (experts V0 2) (experts V0 3) (experts V0 4) (experts V0 5) (experts V0 6) (experts V0 7) := rfl

/-- The running result after stage 4. -/
theorem stage4 : res_main_v485 V0 = stage (res_main_v402 V0) (res_main_v10 V0) (res_main_v15 V0) 4#32 0x40800000#32
    (experts V0 0) (experts V0 1) (experts V0 2) (experts V0 3) (experts V0 4) (experts V0 5) (experts V0 6) (experts V0 7) := rfl

/-- The running result after stage 5. -/
theorem stage5 : res_main_v568 V0 = stage (res_main_v485 V0) (res_main_v10 V0) (res_main_v15 V0) 5#32 0x40A00000#32
    (experts V0 0) (experts V0 1) (experts V0 2) (experts V0 3) (experts V0 4) (experts V0 5) (experts V0 6) (experts V0 7) := rfl

/-- The running result after stage 6. -/
theorem stage6 : res_main_v651 V0 = stage (res_main_v568 V0) (res_main_v10 V0) (res_main_v15 V0) 6#32 0x40C00000#32
    (experts V0 0) (experts V0 1) (experts V0 2) (experts V0 3) (experts V0 4) (experts V0 5) (experts V0 6) (experts V0 7) := rfl

/-- The running result after stage 7. -/
theorem stage7 : res_main_v734 V0 = stage (res_main_v651 V0) (res_main_v10 V0) (res_main_v15 V0) 7#32 0x40E00000#32
    (experts V0 0) (experts V0 1) (experts V0 2) (experts V0 3) (experts V0 4) (experts V0 5) (experts V0 6) (experts V0 7) := rfl

/-- The running result after stage 8. -/
theorem stage8 : res_main_v817 V0 = stage (res_main_v734 V0) (res_main_v10 V0) (res_main_v15 V0) 8#32 0x41000000#32
    (experts V0 0) (experts V0 1) (experts V0 2) (experts V0 3) (experts V0 4) (experts V0 5) (experts V0 6) (experts V0 7) := rfl

/-- The result at an index is the mixture. -/
theorem result_at (p : Fin 2) (s : Fin 2048) (d : Fin 1024) :
    res_main_v817 V0 (ix3 p s d)
      = Cert.Moe.mixture (inX V0) (inW1 V0) (inB1 V0) (inW2 V0) (inB2 V0) (inWu V0) (inBu V0) p s d := by
  have e : res_main_v817 V0 = stages (res_main_v10 V0) (res_main_v15 V0) (experts V0) := by
    rw [stage8, stage7, stage6, stage5, stage4, stage3, stage2, stage1]
    rfl
  refine (congrFun e _).trans ((stages_at _ _ _ p s d ((congrFun (counts V0) _).trans (countV_at _ p s))).trans ?_)
  unfold Cert.Moe.mixture
  refine Finset.sum_congr rfl fun j _ => ?_
  rw [experts_at, uncerts, uncertV_at]

/-- The result, from any names for the argument arrays. -/
theorem result_eq (X : FVec Ideal S2x2048x1024 .f32) (W1 : FVec Ideal S8x1024x4096 .f32) (B1 : FVec Ideal S8x4096 .f32)
    (W2 : FVec Ideal S8x4096x1024 .f32) (B2 : FVec Ideal S8x1024 .f32) (Wu : FVec Ideal S1024x1 .f32) (Bu : FVec Ideal S1 .f32)
    (h0 : inX V0 = X) (h1 : inW1 V0 = W1) (h2 : inB1 V0 = B1) (h3 : inW2 V0 = W2) (h4 : inB2 V0 = B2) (h5 : inWu V0 = Wu) (h6 : inBu V0 = Bu) :
    res_main_v817 V0 = fun i : S2x2048x1024.Idx => Cert.Moe.mixture X W1 B1 W2 B2 Wu Bu (i 0) (i 1) (i 2) := by
  subst h0 h1 h2 h3 h4 h5 h6
  funext i
  idx_vars i
  exact result_at V0 i0 i1 i2

end Cert.ReferenceIdeal.Moe

end
-- ==== Proof.lean ====
/- The proof of the claims about this kernel: the kernel and the reference leave their arguments and the semaphores as
   they should, and over the extended reals both results are the same mixture of experts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tail
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference leaves its arguments as they were and, having no semaphore, none above zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference's result is the mixture of the kernel's arguments, when both start from the same arguments. -/
theorem agree : Cert.algebraic_KernelIdeal_ReferenceIdeal := fun m ρ m' ρ' _ hag =>
  ⟨fun c => Cert.KernelIdeal.Moe.result m c, Cert.KernelIdeal.Moe.run m ρ,
    (θ_run _ _ _).mono (fun _ h c => ⟨(h c).1.trans
      (Cert.ReferenceIdeal.Moe.result_eq _ _ _ _ _ _ _ _ (hag c).1 (hag c).2.1 (hag c).2.2.1 (hag c).2.2.2.1 (hag c).2.2.2.2.1
        (hag c).2.2.2.2.2.1 (hag c).2.2.2.2.2.2), (h c).2⟩) (Cert.ReferenceIdeal.Value.run m' ρ')⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, agree⟩

end Cert.Proof

end
